-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1x28x28 : Shape := ⟨4, ![4096, 1, 28, 28]⟩
abbrev S32x1x3x3 : Shape := ⟨4, ![32, 1, 3, 3]⟩
abbrev S32 : Shape := ⟨1, ![32]⟩
abbrev S64x32x3x3 : Shape := ⟨4, ![64, 32, 3, 3]⟩
abbrev S64 : Shape := ⟨1, ![64]⟩
abbrev S128x9216 : Shape := ⟨2, ![128, 9216]⟩
abbrev S128 : Shape := ⟨1, ![128]⟩
abbrev S10x128 : Shape := ⟨2, ![10, 128]⟩
abbrev S10 : Shape := ⟨1, ![10]⟩
abbrev S32x3x26 : Shape := ⟨3, ![32, 3, 26]⟩
abbrev S3x32x26x1 : Shape := ⟨4, ![3, 32, 26, 1]⟩
abbrev S6x3x4 : Shape := ⟨3, ![6, 3, 4]⟩
abbrev S32x3x3 : Shape := ⟨3, ![32, 3, 3]⟩
abbrev S32x26x32x3 : Shape := ⟨4, ![32, 26, 32, 3]⟩
abbrev S3x32x26x32 : Shape := ⟨4, ![3, 32, 26, 32]⟩
abbrev S1x1x1x32 : Shape := ⟨4, ![1, 1, 1, 32]⟩
abbrev S96x832 : Shape := ⟨2, ![96, 832]⟩
abbrev S6x4x64x32x3 : Shape := ⟨5, ![6, 4, 64, 32, 3]⟩
abbrev S3x6x32x4x64 : Shape := ⟨5, ![3, 6, 32, 4, 64]⟩
abbrev S576x256 : Shape := ⟨2, ![576, 256]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S128x64x12x12 : Shape := ⟨4, ![128, 64, 12, 12]⟩
abbrev S12x12x64x128 : Shape := ⟨4, ![12, 12, 64, 128]⟩
abbrev S12x768x128 : Shape := ⟨3, ![12, 768, 128]⟩
abbrev S_ : Shape := ⟨0, ![]⟩
abbrev S128x128 : Shape := ⟨2, ![128, 128]⟩
abbrev S128x10 : Shape := ⟨2, ![128, 10]⟩
abbrev S1 : Shape := ⟨1, ![1]⟩
abbrev S1x128 : Shape := ⟨2, ![1, 128]⟩
abbrev S2 : Shape := ⟨1, ![2]⟩
abbrev S4096x28x28 : Shape := ⟨3, ![4096, 28, 28]⟩
abbrev S4096x40x32 : Shape := ⟨3, ![4096, 40, 32]⟩
abbrev S4096x40 : Shape := ⟨2, ![4096, 40]⟩
abbrev S40x4096x32 : Shape := ⟨3, ![40, 4096, 32]⟩
abbrev S4096x10 : Shape := ⟨2, ![4096, 10]⟩
abbrev S40x256x32 : Shape := ⟨3, ![40, 256, 32]⟩
abbrev S256x10 : Shape := ⟨2, ![256, 10]⟩
abbrev S10240x32 : Shape := ⟨2, ![10240, 32]⟩
abbrev S8192x32 : Shape := ⟨2, ![8192, 32]⟩
abbrev S8192x96 : Shape := ⟨2, ![8192, 96]⟩
abbrev S8192x832 : Shape := ⟨2, ![8192, 832]⟩
abbrev S6144x192 : Shape := ⟨2, ![6144, 192]⟩
abbrev S6144x576 : Shape := ⟨2, ![6144, 576]⟩
abbrev S6144x256 : Shape := ⟨2, ![6144, 256]⟩
abbrev S12x2x256x256 : Shape := ⟨4, ![12, 2, 256, 256]⟩
abbrev S12x256x256 : Shape := ⟨3, ![12, 256, 256]⟩
abbrev S12x256x64 : Shape := ⟨3, ![12, 256, 64]⟩
abbrev S12x256x128 : Shape := ⟨3, ![12, 256, 128]⟩
abbrev S12x256x768 : Shape := ⟨3, ![12, 256, 768]⟩
abbrev S3072x768 : Shape := ⟨2, ![3072, 768]⟩
abbrev S256x768 : Shape := ⟨2, ![256, 768]⟩
abbrev S1x768x128 : Shape := ⟨3, ![1, 768, 128]⟩
abbrev S768x128 : Shape := ⟨2, ![768, 128]⟩
abbrev S256x128 : Shape := ⟨2, ![256, 128]⟩

abbrev nBuf : Space → Nat
  | .hbm => 62
  | .vmem => 11
  | .smem => 0
  | _ => 0

abbrev bufTy : (tb : Table) → Fin (tcTables nBuf tb) → BufTy
  | .hbm, ⟨0, _⟩ => ⟨S4096x1x28x28, .f32⟩
  | .hbm, ⟨1, _⟩ => ⟨S32x1x3x3, .f32⟩
  | .hbm, ⟨2, _⟩ => ⟨S32, .f32⟩
  | .hbm, ⟨3, _⟩ => ⟨S64x32x3x3, .f32⟩
  | .hbm, ⟨4, _⟩ => ⟨S64, .f32⟩
  | .hbm, ⟨5, _⟩ => ⟨S128x9216, .f32⟩
  | .hbm, ⟨6, _⟩ => ⟨S128, .f32⟩
  | .hbm, ⟨7, _⟩ => ⟨S10x128, .f32⟩
  | .hbm, ⟨8, _⟩ => ⟨S10, .f32⟩
  | .hbm, ⟨9, _⟩ => ⟨S32x3x26, .f32⟩
  | .hbm, ⟨10, _⟩ => ⟨S3x32x26x1, .f32⟩
  | .hbm, ⟨11, _⟩ => ⟨S6x3x4, .f32⟩
  | .hbm, ⟨12, _⟩ => ⟨S32x3x3, .f32⟩
  | .hbm, ⟨13, _⟩ => ⟨S32x26x32x3, .f32⟩
  | .hbm, ⟨14, _⟩ => ⟨S3x32x26x32, .f32⟩
  | .hbm, ⟨15, _⟩ => ⟨S1x1x1x32, .f32⟩
  | .hbm, ⟨16, _⟩ => ⟨S3x32x26x32, .f32⟩
  | .hbm, ⟨17, _⟩ => ⟨S3x32x26x32, .f32⟩
  | .hbm, ⟨18, _⟩ => ⟨S3x32x26x32, .f32⟩
  | .hbm, ⟨19, _⟩ => ⟨S3x32x26x32, .f32⟩
  | .hbm, ⟨20, _⟩ => ⟨S96x832, .f32⟩
  | .hbm, ⟨21, _⟩ => ⟨S6x4x64x32x3, .f32⟩
  | .hbm, ⟨22, _⟩ => ⟨S3x6x32x4x64, .f32⟩
  | .hbm, ⟨23, _⟩ => ⟨S576x256, .f32⟩
  | .hbm, ⟨24, _⟩ => ⟨S1x64, .f32⟩
  | .hbm, ⟨25, _⟩ => ⟨S4x64, .f32⟩
  | .hbm, ⟨26, _⟩ => ⟨S256, .f32⟩
  | .hbm, ⟨27, _⟩ => ⟨S1x256, .f32⟩
  | .hbm, ⟨28, _⟩ => ⟨S128x64x12x12, .f32⟩
  | .hbm, ⟨29, _⟩ => ⟨S12x12x64x128, .f32⟩
  | .hbm, ⟨30, _⟩ => ⟨S12x768x128, .f32⟩
  | .hbm, ⟨31, _⟩ => ⟨S_, .f32⟩
  | .hbm, ⟨32, _⟩ => ⟨S128x128, .f32⟩
  | .hbm, ⟨33, _⟩ => ⟨S128x10, .f32⟩
  | .hbm, ⟨34, _⟩ => ⟨S_, .i32⟩
  | .hbm, ⟨35, _⟩ => ⟨S1, .i32⟩
  | .hbm, ⟨36, _⟩ => ⟨S128x128, .f32⟩
  | .hbm, ⟨37, _⟩ => ⟨S_, .f32⟩
  | .hbm, ⟨38, _⟩ => ⟨S1x128, .f32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S1x128, .f32⟩
  | .hbm, ⟨45, _⟩ => ⟨S96x832, .bf16⟩
  | .hbm, ⟨46, _⟩ => ⟨S576x256, .bf16⟩
  | .hbm, ⟨47, _⟩ => ⟨S12x768x128, .bf16⟩
  | .hbm, ⟨48, _⟩ => ⟨S1x128, .f32⟩
  | .hbm, ⟨49, _⟩ => ⟨S128x128, .bf16⟩
  | .hbm, ⟨50, _⟩ => ⟨S4096x28x28, .f32⟩
  | .hbm, ⟨51, _⟩ => ⟨S_, .i32⟩
  | .hbm, ⟨52, _⟩ => ⟨S_, .f32⟩
  | .hbm, ⟨53, _⟩ => ⟨S4096x40x32, .f32⟩
  | .hbm, ⟨54, _⟩ => ⟨S_, .i32⟩
  | .hbm, ⟨55, _⟩ => ⟨S1, .i32⟩
  | .hbm, ⟨56, _⟩ => ⟨S_, .f32⟩
  | .hbm, ⟨57, _⟩ => ⟨S4096x40, .f32⟩
  | .hbm, ⟨58, _⟩ => ⟨S4096x40x32, .f32⟩
  | .hbm, ⟨59, _⟩ => ⟨S40x4096x32, .f32⟩
  | .hbm, ⟨60, _⟩ => ⟨S40x4096x32, .bf16⟩
  | .hbm, ⟨61, _⟩ => ⟨S4096x10, .f32⟩
  | .local _ .vmem, ⟨0, _⟩ => ⟨S40x256x32, .bf16⟩
  | .local _ .vmem, ⟨1, _⟩ => ⟨S40x256x32, .bf16⟩
  | .local _ .vmem, ⟨2, _⟩ => ⟨S96x832, .bf16⟩
  | .local _ .vmem, ⟨3, _⟩ => ⟨S576x256, .bf16⟩
  | .local _ .vmem, ⟨4, _⟩ => ⟨S1x256, .f32⟩
  | .local _ .vmem, ⟨5, _⟩ => ⟨S12x768x128, .bf16⟩
  | .local _ .vmem, ⟨6, _⟩ => ⟨S1x128, .f32⟩
  | .local _ .vmem, ⟨7, _⟩ => ⟨S128x128, .bf16⟩
  | .local _ .vmem, ⟨8, _⟩ => ⟨S1x128, .f32⟩
  | .local _ .vmem, ⟨9, _⟩ => ⟨S256x10, .f32⟩
  | .local _ .vmem, ⟨10, _⟩ => ⟨S256x10, .f32⟩
  | _, _ => ⟨S4096x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_cst_1 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_call0_v0 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S40x256x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x832 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S576x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x768x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x10 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4096x1x28x28 : Shape := ⟨4, ![4096, 1, 28, 28]⟩
abbrev S32x1x3x3 : Shape := ⟨4, ![32, 1, 3, 3]⟩
abbrev S32 : Shape := ⟨1, ![32]⟩
abbrev S64x32x3x3 : Shape := ⟨4, ![64, 32, 3, 3]⟩
abbrev S64 : Shape := ⟨1, ![64]⟩
abbrev S128x9216 : Shape := ⟨2, ![128, 9216]⟩
abbrev S128 : Shape := ⟨1, ![128]⟩
abbrev S10x128 : Shape := ⟨2, ![10, 128]⟩
abbrev S10 : Shape := ⟨1, ![10]⟩
abbrev S4096x1x26x26 : Shape := ⟨4, ![4096, 1, 26, 26]⟩
abbrev S32x1x1x1 : Shape := ⟨4, ![32, 1, 1, 1]⟩
abbrev S32x1 : Shape := ⟨2, ![32, 1]⟩
abbrev S32x4096x26x26 : Shape := ⟨4, ![32, 4096, 26, 26]⟩
abbrev S4096x32x26x26 : Shape := ⟨4, ![4096, 32, 26, 26]⟩
abbrev S1x32x1x1 : Shape := ⟨4, ![1, 32, 1, 1]⟩
abbrev S_ : Shape := ⟨0, ![]⟩
abbrev S4096x32x24x24 : Shape := ⟨4, ![4096, 32, 24, 24]⟩
abbrev S64x32x1x1 : Shape := ⟨4, ![64, 32, 1, 1]⟩
abbrev S64x32 : Shape := ⟨2, ![64, 32]⟩
abbrev S64x4096x24x24 : Shape := ⟨4, ![64, 4096, 24, 24]⟩
abbrev S4096x64x24x24 : Shape := ⟨4, ![4096, 64, 24, 24]⟩
abbrev S1x64x1x1 : Shape := ⟨4, ![1, 64, 1, 1]⟩
abbrev S4096x64x12x2x12x2 : Shape := ⟨6, ![4096, 64, 12, 2, 12, 2]⟩
abbrev S4096x64x12x12 : Shape := ⟨4, ![4096, 64, 12, 12]⟩
abbrev S4096x9216 : Shape := ⟨2, ![4096, 9216]⟩
abbrev S9216x128 : Shape := ⟨2, ![9216, 128]⟩
abbrev S4096x128 : Shape := ⟨2, ![4096, 128]⟩
abbrev S1x128 : Shape := ⟨2, ![1, 128]⟩
abbrev S128x10 : Shape := ⟨2, ![128, 10]⟩
abbrev S4096x10 : Shape := ⟨2, ![4096, 10]⟩
abbrev S1x10 : Shape := ⟨2, ![1, 10]⟩

abbrev nBuf : Space → Nat
  | .hbm => 144
  | .vmem => 0
  | .smem => 0
  | _ => 0

abbrev hbmTy0_0 (i : Nat) : BufTy := match i % 128 with
  | 0 => ⟨S4096x1x28x28, .f32⟩
  | 1 => ⟨S32x1x3x3, .f32⟩
  | 2 => ⟨S32, .f32⟩
  | 3 => ⟨S64x32x3x3, .f32⟩
  | 4 => ⟨S64, .f32⟩
  | 5 => ⟨S128x9216, .f32⟩
  | 6 => ⟨S128, .f32⟩
  | 7 => ⟨S10x128, .f32⟩
  | 8 => ⟨S10, .f32⟩
  | 9 => ⟨S4096x1x26x26, .f32⟩
  | 10 => ⟨S32x1x1x1, .f32⟩
  | 11 => ⟨S32x1, .f32⟩
  | 12 => ⟨S32x4096x26x26, .f32⟩
  | 13 => ⟨S4096x32x26x26, .f32⟩
  | 14 => ⟨S4096x1x26x26, .f32⟩
  | 15 => ⟨S32x1x1x1, .f32⟩
  | 16 => ⟨S32x1, .f32⟩
  | 17 => ⟨S32x4096x26x26, .f32⟩
  | 18 => ⟨S4096x32x26x26, .f32⟩
  | 19 => ⟨S4096x32x26x26, .f32⟩
  | 20 => ⟨S4096x1x26x26, .f32⟩
  | 21 => ⟨S32x1x1x1, .f32⟩
  | 22 => ⟨S32x1, .f32⟩
  | 23 => ⟨S32x4096x26x26, .f32⟩
  | 24 => ⟨S4096x32x26x26, .f32⟩
  | 25 => ⟨S4096x32x26x26, .f32⟩
  | 26 => ⟨S4096x1x26x26, .f32⟩
  | 27 => ⟨S32x1x1x1, .f32⟩
  | 28 => ⟨S32x1, .f32⟩
  | 29 => ⟨S32x4096x26x26, .f32⟩
  | 30 => ⟨S4096x32x26x26, .f32⟩
  | 31 => ⟨S4096x32x26x26, .f32⟩
  | 32 => ⟨S4096x1x26x26, .f32⟩
  | 33 => ⟨S32x1x1x1, .f32⟩
  | 34 => ⟨S32x1, .f32⟩
  | 35 => ⟨S32x4096x26x26, .f32⟩
  | 36 => ⟨S4096x32x26x26, .f32⟩
  | 37 => ⟨S4096x32x26x26, .f32⟩
  | 38 => ⟨S4096x1x26x26, .f32⟩
  | 39 => ⟨S32x1x1x1, .f32⟩
  | 40 => ⟨S32x1, .f32⟩
  | 41 => ⟨S32x4096x26x26, .f32⟩
  | 42 => ⟨S4096x32x26x26, .f32⟩
  | 43 => ⟨S4096x32x26x26, .f32⟩
  | 44 => ⟨S4096x1x26x26, .f32⟩
  | 45 => ⟨S32x1x1x1, .f32⟩
  | 46 => ⟨S32x1, .f32⟩
  | 47 => ⟨S32x4096x26x26, .f32⟩
  | 48 => ⟨S4096x32x26x26, .f32⟩
  | 49 => ⟨S4096x32x26x26, .f32⟩
  | 50 => ⟨S4096x1x26x26, .f32⟩
  | 51 => ⟨S32x1x1x1, .f32⟩
  | 52 => ⟨S32x1, .f32⟩
  | 53 => ⟨S32x4096x26x26, .f32⟩
  | 54 => ⟨S4096x32x26x26, .f32⟩
  | 55 => ⟨S4096x32x26x26, .f32⟩
  | 56 => ⟨S4096x1x26x26, .f32⟩
  | 57 => ⟨S32x1x1x1, .f32⟩
  | 58 => ⟨S32x1, .f32⟩
  | 59 => ⟨S32x4096x26x26, .f32⟩
  | 60 => ⟨S4096x32x26x26, .f32⟩
  | 61 => ⟨S4096x32x26x26, .f32⟩
  | 62 => ⟨S1x32x1x1, .f32⟩
  | 63 => ⟨S4096x32x26x26, .f32⟩
  | 64 => ⟨S4096x32x26x26, .f32⟩
  | 65 => ⟨S_, .f32⟩
  | 66 => ⟨S4096x32x26x26, .f32⟩
  | 67 => ⟨S4096x32x26x26, .f32⟩
  | 68 => ⟨S4096x32x24x24, .f32⟩
  | 69 => ⟨S64x32x1x1, .f32⟩
  | 70 => ⟨S64x32, .f32⟩
  | 71 => ⟨S64x4096x24x24, .f32⟩
  | 72 => ⟨S4096x64x24x24, .f32⟩
  | 73 => ⟨S4096x32x24x24, .f32⟩
  | 74 => ⟨S64x32x1x1, .f32⟩
  | 75 => ⟨S64x32, .f32⟩
  | 76 => ⟨S64x4096x24x24, .f32⟩
  | 77 => ⟨S4096x64x24x24, .f32⟩
  | 78 => ⟨S4096x64x24x24, .f32⟩
  | 79 => ⟨S4096x32x24x24, .f32⟩
  | 80 => ⟨S64x32x1x1, .f32⟩
  | 81 => ⟨S64x32, .f32⟩
  | 82 => ⟨S64x4096x24x24, .f32⟩
  | 83 => ⟨S4096x64x24x24, .f32⟩
  | 84 => ⟨S4096x64x24x24, .f32⟩
  | 85 => ⟨S4096x32x24x24, .f32⟩
  | 86 => ⟨S64x32x1x1, .f32⟩
  | 87 => ⟨S64x32, .f32⟩
  | 88 => ⟨S64x4096x24x24, .f32⟩
  | 89 => ⟨S4096x64x24x24, .f32⟩
  | 90 => ⟨S4096x64x24x24, .f32⟩
  | 91 => ⟨S4096x32x24x24, .f32⟩
  | 92 => ⟨S64x32x1x1, .f32⟩
  | 93 => ⟨S64x32, .f32⟩
  | 94 => ⟨S64x4096x24x24, .f32⟩
  | 95 => ⟨S4096x64x24x24, .f32⟩
  | 96 => ⟨S4096x64x24x24, .f32⟩
  | 97 => ⟨S4096x32x24x24, .f32⟩
  | 98 => ⟨S64x32x1x1, .f32⟩
  | 99 => ⟨S64x32, .f32⟩
  | 100 => ⟨S64x4096x24x24, .f32⟩
  | 101 => ⟨S4096x64x24x24, .f32⟩
  | 102 => ⟨S4096x64x24x24, .f32⟩
  | 103 => ⟨S4096x32x24x24, .f32⟩
  | 104 => ⟨S64x32x1x1, .f32⟩
  | 105 => ⟨S64x32, .f32⟩
  | 106 => ⟨S64x4096x24x24, .f32⟩
  | 107 => ⟨S4096x64x24x24, .f32⟩
  | 108 => ⟨S4096x64x24x24, .f32⟩
  | 109 => ⟨S4096x32x24x24, .f32⟩
  | 110 => ⟨S64x32x1x1, .f32⟩
  | 111 => ⟨S64x32, .f32⟩
  | 112 => ⟨S64x4096x24x24, .f32⟩
  | 113 => ⟨S4096x64x24x24, .f32⟩
  | 114 => ⟨S4096x64x24x24, .f32⟩
  | 115 => ⟨S4096x32x24x24, .f32⟩
  | 116 => ⟨S64x32x1x1, .f32⟩
  | 117 => ⟨S64x32, .f32⟩
  | 118 => ⟨S64x4096x24x24, .f32⟩
  | 119 => ⟨S4096x64x24x24, .f32⟩
  | 120 => ⟨S4096x64x24x24, .f32⟩
  | 121 => ⟨S1x64x1x1, .f32⟩
  | 122 => ⟨S4096x64x24x24, .f32⟩
  | 123 => ⟨S4096x64x24x24, .f32⟩
  | 124 => ⟨S_, .f32⟩
  | 125 => ⟨S4096x64x24x24, .f32⟩
  | 126 => ⟨S4096x64x24x24, .f32⟩
  | 127 => ⟨S4096x64x12x2x12x2, .f32⟩
  | _ => ⟨S4096x1x28x28, .f32⟩

abbrev hbmTy0_1 (i : Nat) : BufTy := match i % 128 with
  | 0 => ⟨S_, .f32⟩
  | 1 => ⟨S4096x64x12x12, .f32⟩
  | 2 => ⟨S4096x9216, .f32⟩
  | 3 => ⟨S9216x128, .f32⟩
  | 4 => ⟨S4096x128, .f32⟩
  | 5 => ⟨S1x128, .f32⟩
  | 6 => ⟨S4096x128, .f32⟩
  | 7 => ⟨S4096x128, .f32⟩
  | 8 => ⟨S_, .f32⟩
  | 9 => ⟨S4096x128, .f32⟩
  | 10 => ⟨S4096x128, .f32⟩
  | 11 => ⟨S128x10, .f32⟩
  | 12 => ⟨S4096x10, .f32⟩
  | 13 => ⟨S1x10, .f32⟩
  | 14 => ⟨S4096x10, .f32⟩
  | 15 => ⟨S4096x10, .f32⟩
  | _ => ⟨S4096x1x28x28, .f32⟩

abbrev hbmTy (i : Nat) : BufTy := match i / 128 with
  | 0 => hbmTy0_0 i
  | 1 => hbmTy0_1 i
  | _ => ⟨S4096x1x28x28, .f32⟩

abbrev bufTy : (tb : Table) → Fin (tcTables nBuf tb) → BufTy
  | .hbm, ⟨i, _⟩ => hbmTy i
  | _, _ => ⟨S4096x1x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_call0_cst : Ref sig .tc := ⟨.hbm, 65, rfl⟩
abbrev main_call0_v0 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_call1_cst : Ref sig .tc := ⟨.hbm, 124, rfl⟩
abbrev main_call1_v0 : Ref sig .tc := ⟨.hbm, 125, rfl⟩
abbrev main_v113 : Ref sig .tc := ⟨.hbm, 126, rfl⟩
abbrev main_v114 : Ref sig .tc := ⟨.hbm, 127, rfl⟩
abbrev main_cst : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_call2_cst : Ref sig .tc := ⟨.hbm, 136, rfl⟩
abbrev main_call2_v0 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩

abbrev nD : Nat := 1
abbrev τ : Topo := Topo.v7x

variable {F : FTy → Type} [FloatOps F]
-- ==== Proof.Scatters.lean ====
module

public import proofs.«01_k».proof.Proof.Gen.KernelIdeal.Value
public import Idealize.ShloMosaic.Lib.Pointwise
public import Idealize.ShloMosaic.Lib.Routing.OpsSet

@[expose] public section

set_option maxRecDepth 16384

/-!
  The three writes of the kernel's host part into an array, read at an element: the second dense layer's weights into the
  first ten columns of a zero table, its bias into the first ten lanes of a zero row, and the ones into lane 31 of the
  padded images.
-/

noncomputable section

namespace Cert.KernelIdeal.Host

open Cert.KernelIdeal Cert.KernelIdeal.Gen Idealize.ShloMosaic Idealize.ShloMosaic.Routing

/-- Where an entry of the written columns lands: at the same row and column. -/
theorem lands_cols (idx : IVec S1 32) (hidx : ∀ i, idx i = 0#32) (k : S128x10.Idx) (r c : Fin 128) :
    scatter_S128x128_S1_S128x10_01_n_1_0.resultIdx? k idx = some (ix2 r c) ↔ (k 0).val = r.val ∧ (k 1).val = c.val := by
  have s0 : scatter_S128x128_S1_S128x10_01_n_1_0.start k idx 0 = 0 := rfl
  have s1 : scatter_S128x128_S1_S128x10_01_n_1_0.start k idx 1 = 0 := by
    unfold ScatterDims.start
    split
    · rw [hidx]; rfl
    · rfl
  have w0 : scatter_S128x128_S1_S128x10_01_n_1_0.window k 0 = (k 0).val := rfl
  have w1 : scatter_S128x128_S1_S128x10_01_n_1_0.window k 1 = (k 1).val := rfl
  rw [resultIdx?_eq_some]
  constructor
  · intro h
    have h0 := h 0; have h1 := h 1
    rw [s0, w0] at h0; rw [s1, w1] at h1
    change (0 : Int) + ((k 0).val : Int) = (r.val : Int) at h0
    change (0 : Int) + ((k 1).val : Int) = (c.val : Int) at h1
    omega
  · rintro ⟨h0, h1⟩ a
    match a with
    | ⟨0, _⟩ =>
      show scatter_S128x128_S1_S128x10_01_n_1_0.start k idx 0 + (scatter_S128x128_S1_S128x10_01_n_1_0.window k 0 : Int) = (r.val : Int)
      rw [s0, w0]; omega
    | ⟨1, _⟩ =>
      show scatter_S128x128_S1_S128x10_01_n_1_0.start k idx 1 + (scatter_S128x128_S1_S128x10_01_n_1_0.window k 1 : Int) = (c.val : Int)
      rw [s1, w1]; omega

/-- The first ten columns of the written table are the written ones. -/
theorem scatter_cols (x0 : FVec Ideal S128x128 .f32) (idx : IVec S1 32) (hidx : ∀ i, idx i = 0#32) (upd : FVec Ideal S128x10 .f32)
    (r : Fin 128) (l : Fin 10) :
    Host.scatter scatter_S128x128_S1_S128x10_01_n_1_0 (fun _ b => b) x0 idx upd (ix2 r ⟨l.1, by omega⟩) = upd (ix2 r l) := by
  refine scatter_set_hit _ x0 idx upd _ _ (fun k hk => ?_) (ix2 r l) ((lands_cols idx hidx _ _ _).2 ⟨rfl, rfl⟩)
  obtain ⟨h0, h1⟩ := (lands_cols idx hidx _ _ _).1 hk
  idx_vars k
  have e0 : k0 = r := Fin.ext h0
  have e1 : k1 = l := Fin.ext h1
  rw [e0, e1]

/-- Where an entry of the written bias lands: at the same lane. -/
theorem lands_lanes (idx : IVec S2 32) (hidx : ∀ i, idx i = 0#32) (k : S10.Idx) (c : Fin 128) :
    scatter_S1x128_S2_S10_0_0_01_0.resultIdx? k idx = some (ix2 0 c) ↔ (k 0).val = c.val := by
  have s (a) : scatter_S1x128_S2_S10_0_0_01_0.start k idx a = 0 := by
    unfold ScatterDims.start
    split
    · rw [hidx]; rfl
    · rfl
  have w0 : scatter_S1x128_S2_S10_0_0_01_0.window k 0 = 0 := rfl
  have w1 : scatter_S1x128_S2_S10_0_0_01_0.window k 1 = (k 0).val := rfl
  rw [resultIdx?_eq_some]
  constructor
  · intro h
    have h1 := h 1
    rw [s, w1] at h1
    change (0 : Int) + ((k 0).val : Int) = (c.val : Int) at h1
    omega
  · intro h1 a
    rw [s]
    match a with
    | ⟨0, _⟩ =>
      show (0 : Int) + (scatter_S1x128_S2_S10_0_0_01_0.window k 0 : Int) = ((0 : Fin 1).val : Int)
      rw [w0]; rfl
    | ⟨1, _⟩ =>
      show (0 : Int) + (scatter_S1x128_S2_S10_0_0_01_0.window k 1 : Int) = (c.val : Int)
      rw [w1]; omega

/-- The first ten lanes of the written row are the written ones. -/
theorem scatter_lanes (x0 : FVec Ideal S1x128 .f32) (idx : IVec S2 32) (hidx : ∀ i, idx i = 0#32) (upd : FVec Ideal S10 .f32)
    (l : Fin 10) :
    Host.scatter scatter_S1x128_S2_S10_0_0_01_0 (fun _ b => b) x0 idx upd (ix2 0 ⟨l.1, by omega⟩) = upd (ix1 l) := by
  refine scatter_set_hit _ x0 idx upd _ _ (fun k hk => ?_) (ix1 l) ((lands_lanes idx hidx _ _).2 rfl)
  have h0 := (lands_lanes idx hidx _ _).1 hk
  idx_vars k
  have e0 : k0 = l := Fin.ext h0
  rw [e0]

/-- Where a written one lands: at lane 31 of its image's row. -/
theorem lands_ones (idx : IVec S1 32) (hidx : ∀ i, idx i = 31#32) (k : S4096x40.Idx) (n : Fin 4096) (a : Fin 40) (p : Fin 32) :
    scatter_S4096x40x32_S1_S4096x40_01_2_2_0.resultIdx? k idx = some (ix3 n a p)
      ↔ (k 0).val = n.val ∧ (k 1).val = a.val ∧ p.val = 31 := by
  have s0 : scatter_S4096x40x32_S1_S4096x40_01_2_2_0.start k idx 0 = 0 := rfl
  have s1 : scatter_S4096x40x32_S1_S4096x40_01_2_2_0.start k idx 1 = 0 := rfl
  have s2 : scatter_S4096x40x32_S1_S4096x40_01_2_2_0.start k idx 2 = 31 := by
    unfold ScatterDims.start
    rw [dif_pos (by decide), hidx]; rfl
  have w0 : scatter_S4096x40x32_S1_S4096x40_01_2_2_0.window k 0 = (k 0).val := rfl
  have w1 : scatter_S4096x40x32_S1_S4096x40_01_2_2_0.window k 1 = (k 1).val := rfl
  have w2 : scatter_S4096x40x32_S1_S4096x40_01_2_2_0.window k 2 = 0 := rfl
  rw [resultIdx?_eq_some]
  constructor
  · intro h
    have h0 := h 0; have h1 := h 1; have h2 := h 2
    rw [s0, w0] at h0; rw [s1, w1] at h1; rw [s2, w2] at h2
    change (0 : Int) + ((k 0).val : Int) = (n.val : Int) at h0
    change (0 : Int) + ((k 1).val : Int) = (a.val : Int) at h1
    change (31 : Int) + 0 = (p.val : Int) at h2
    omega
  · rintro ⟨h0, h1, h2⟩ b
    match b with
    | ⟨0, _⟩ =>
      show scatter_S4096x40x32_S1_S4096x40_01_2_2_0.start k idx 0 + (scatter_S4096x40x32_S1_S4096x40_01_2_2_0.window k 0 : Int) = (n.val : Int)
      rw [s0, w0]; omega
    | ⟨1, _⟩ =>
      show scatter_S4096x40x32_S1_S4096x40_01_2_2_0.start k idx 1 + (scatter_S4096x40x32_S1_S4096x40_01_2_2_0.window k 1 : Int) = (a.val : Int)
      rw [s1, w1]; omega
    | ⟨2, _⟩ =>
      show scatter_S4096x40x32_S1_S4096x40_01_2_2_0.start k idx 2 + (scatter_S4096x40x32_S1_S4096x40_01_2_2_0.window k 2 : Int) = (p.val : Int)
      rw [s2, w2]; omega

/-- Lane 31 of the written images holds what was written; the other lanes are as before. -/
theorem scatter_ones (x0 : FVec Ideal S4096x40x32 .f32) (idx : IVec S1 32) (hidx : ∀ i, idx i = 31#32) (upd : FVec Ideal S4096x40 .f32)
    (n : Fin 4096) (a : Fin 40) (p : Fin 32) :
    Host.scatter scatter_S4096x40x32_S1_S4096x40_01_2_2_0 (fun _ b => b) x0 idx upd (ix3 n a p)
      = if p.val = 31 then upd (ix2 n a) else x0 (ix3 n a p) := by
  by_cases hp : p.val = 31
  · rw [if_pos hp]
    refine scatter_set_hit _ x0 idx upd _ _ (fun k hk => ?_) (ix2 n a) ((lands_ones idx hidx _ _ _ _).2 ⟨rfl, rfl, hp⟩)
    obtain ⟨h0, h1, _⟩ := (lands_ones idx hidx _ _ _ _).1 hk
    idx_vars k
    have e0 : k0 = n := Fin.ext h0
    have e1 : k1 = a := Fin.ext h1
    rw [e0, e1]
  · rw [if_neg hp]
    exact scatter_set_miss _ x0 idx upd _ fun k hk => hp ((lands_ones idx hidx _ _ _ _).1 hk).2.2

end Cert.KernelIdeal.Host

end
-- ==== Proof.HostArrays.lean ====
module

public import proofs.«01_k».proof.Proof.Scatters
public import Idealize.ShloMosaic.Lib.StableHlo.ReadAt

@[expose] public section

set_option maxRecDepth 16384

/-!
  What the kernel's windows stage: the eight arrays that the host part prepares, read at an element as a term over the
  elements of @main's arguments.
-/

noncomputable section

namespace Cert.KernelIdeal.Host

open Cert.KernelIdeal Cert.KernelIdeal.Gen Idealize.ShloMosaic Idealize.ShloMosaic.TcCoe Idealize.SL.Sem

variable (m : (ℓ : Loc nD τ sig) → Buf (Elt Ideal) ℓ) (c : Dev nD)

/-- The images. -/
abbrev images : FVec Ideal S4096x1x28x28 .f32 := m (c.tc.loc main_arg0)
/-- The first convolution's weights. -/
abbrev weights1 : FVec Ideal S32x1x3x3 .f32 := m (c.tc.loc main_arg1)
/-- The first convolution's bias. -/
abbrev bias1 : FVec Ideal S32 .f32 := m (c.tc.loc main_arg2)
/-- The second convolution's weights. -/
abbrev weights2 : FVec Ideal S64x32x3x3 .f32 := m (c.tc.loc main_arg3)
/-- The second convolution's bias. -/
abbrev bias2 : FVec Ideal S64 .f32 := m (c.tc.loc main_arg4)
/-- The first dense layer's weights. -/
abbrev weights3 : FVec Ideal S128x9216 .f32 := m (c.tc.loc main_arg5)
/-- The first dense layer's bias. -/
abbrev bias3 : FVec Ideal S128 .f32 := m (c.tc.loc main_arg6)
/-- The second dense layer's weights. -/
abbrev weights4 : FVec Ideal S10x128 .f32 := m (c.tc.loc main_arg7)
/-- The second dense layer's bias. -/
abbrev bias4 : FVec Ideal S10 .f32 := m (c.tc.loc main_arg8)

/-- The printed band table of the first convolution: 1 where the lane is the place plus the tap. -/
theorem lit0_at : ∀ (p : Fin 32) (e : Fin 3) (j : Fin 26),
    lit0 (S32x3x26.rowMajor (ix3 p e j)) = if p.1 = j.1 + e.1 then 0x3F800000#32 else 0x00000000#32 := by
  decide +kernel

/-- The printed table that puts the first bias on lane 31 of the first tap row. -/
theorem lit1_at : ∀ (d : Fin 3) (p : Fin 32) (j : Fin 26),
    lit1 (S3x32x26x1.rowMajor (ix4 d p j 0)) = if d = 0 ∧ p.1 = 31 then 0x3F800000#32 else 0x00000000#32 := by
  decide +kernel

/-- The printed band table of the second convolution. -/
theorem lit2_at : ∀ (s : Fin 6) (e : Fin 3) (q : Fin 4),
    lit2 (S6x3x4.rowMajor (ix3 s e q)) = if s.1 = q.1 + e.1 then 0x3F800000#32 else 0x00000000#32 := by
  decide +kernel

/-- A printed one or zero, chosen by a condition, as an extended real. -/
theorem ofBits_ite (p : Prop) [Decidable p] :
    Ideal.ofBits .f32 (if p then 0x3F800000#32 else 0x00000000#32) = if p then (1 : EReal) else 0 := by
  split
  · exact Ideal.ofBits_one_f32
  · exact Ideal.ofBits_zero_f32

/-- The first convolution's table. -/
theorem t1_at (r : Fin 96) (k : Fin 832) : V m c main_v28 (ix2 r k)
    = ((∑ e : Fin 3, weights1 m c (ix4 ⟨k.1 % 32, by omega⟩ 0 ⟨r.1 / 32, by omega⟩ e)
          * (if r.1 % 32 = k.1 / 32 + e.1 then (1 : EReal) else 0))
        + (if r.1 / 32 = 0 ∧ r.1 % 32 = 31 then (1 : EReal) else 0) * bias1 m c (ix1 ⟨k.1 % 32, by omega⟩) : EReal) := by
  unfold V
  after_reads_at
  refine Ideal.add_congr (Finset.sum_congr rfl fun e _ => (Ideal.mul_congr ?_ rfl).trans (mul_comm _ _)) (Ideal.mul_congr ?_ rfl)
  · rw [lit0_at, ofBits_ite]
  · rw [lit1_at, ofBits_ite]
    simp only [Fin.ext_iff, Fin.val_zero]

/-- The second convolution's table. -/
theorem t2_at (r : Fin 576) (k : Fin 256) : V m c main_v29 (ix2 r k)
    = (∑ e : Fin 3, weights2 m c (ix4 ⟨k.1 % 64, by omega⟩ ⟨r.1 % 32, by omega⟩ ⟨r.1 / 192, by omega⟩ e)
          * (if r.1 / 32 % 6 = k.1 / 64 + e.1 then (1 : EReal) else 0) : EReal) := by
  unfold V
  after_reads_at
  refine Finset.sum_congr rfl fun e _ => (Ideal.mul_congr ?_ rfl).trans (mul_comm _ _)
  rw [lit2_at, ofBits_ite]

/-- The second convolution's bias, once per place of a group. -/
theorem b2_at (k : Fin 256) : V m c main_v15 (ix2 0 k) = bias2 m c (ix1 ⟨k.1 % 64, by omega⟩) := by
  unfold V
  after_reads_at

/-- The first dense layer's weights, row of the pooled map by row. -/
theorem fw1_at (t : Fin 12) (r : Fin 768) (k : Fin 128) : V m c main_v30 (ix3 t r k)
    = weights3 m c (ix2 k ⟨r.1 % 64 * 144 + t.1 * 12 + r.1 / 64, by omega⟩) := by
  unfold V
  after_reads_at

/-- The first dense layer's bias. -/
theorem fb1_at (k : Fin 128) : V m c main_v31 (ix2 0 k) = bias3 m c (ix1 k) := by
  unfold V
  after_reads_at

/-- The second dense layer's weights: the first ten columns. -/
theorem fw2_at (r : Fin 128) (l : Fin 10) : V m c main_v32 (ix2 r ⟨l.1, by omega⟩) = weights4 m c (ix2 l r) := by
  unfold V
  after_reads_at
  refine (scatter_cols _ _ (fun _ => rfl) _ _ _).trans ?_
  pointwise

/-- The second dense layer's bias: the first ten lanes. -/
theorem fb2_at (l : Fin 10) : V m c main_v27 (ix2 0 ⟨l.1, by omega⟩) = bias4 m c (ix1 l) := by
  unfold V
  after_reads_at
  refine scatter_lanes _ _ (fun i => ?_) _ _
  idx_vars i
  pointwise
  after_reads_simp
  split <;> rfl

/-- The padded images, row by row: ones on lane 31, the image on its 28×28 places, zeros elsewhere. -/
theorem xp_at (a : Fin 40) (n : Fin 4096) (p : Fin 32) : V m c main_v39 (ix3 a n p)
    = (if p.1 = 31 then (1 : EReal) else if h : a.1 < 28 ∧ p.1 < 28 then
        images m c (ix4 n 0 ⟨a.1, h.1⟩ ⟨p.1, h.2⟩) else 0 : EReal) := by
  unfold V
  after_reads_at
  refine (scatter_ones _ _ (fun _ => rfl) _ _ _ _).trans ?_
  pointwise
  split
  · rfl
  · split
    · rfl
    · exact (congrArg (fun z : Int => (((z : ℝ)) : EReal)) (by rfl : (0#32).toInt = 0)).trans (by simp)

end Cert.KernelIdeal.Host

end
-- ==== Proof.SumLaws.lean ====
module

public import Mathlib.Data.EReal.Operations
public import Mathlib.Algebra.BigOperators.Fin
public import Mathlib.Algebra.BigOperators.Ring.Finset

@[expose] public section

/-!
  Sums in extended reals that the layers meet: a sum over a flat index as a double sum, and a sum against a banded
  0/1 table as the sum of the three taps. No product is distributed over a sum of several nonzero terms, so nothing
  is asked of the entries: they may be infinite.
-/

namespace Cert.Net

/-- A sum over a flat index, row by row. -/
theorem sum_rows (a b n : Nat) (h : n = a * b) (f : Fin n → EReal) :
    ∑ k, f k = ∑ i : Fin a, ∑ j : Fin b, f ⟨i.1 * b + j.1, by
      have hi := i.2; have hj := j.2
      have : i.1 * b + b ≤ a * b := by rw [← Nat.succ_mul]; exact Nat.mul_le_mul_right _ hi
      omega⟩ := by
  subst h
  rw [← finProdFinEquiv.sum_comp, Fintype.sum_prod_type]
  refine Finset.sum_congr rfl fun i _ => Finset.sum_congr rfl fun j _ => congrArg f (Fin.ext ?_)
  simp only [finProdFinEquiv_apply_val]
  rw [add_comm, mul_comm]

/-- Each entry against the three taps of the band: at most one tap is there, so the product meets one term. -/
theorem mul_band (x : EReal) (w : Fin 3 → EReal) (p q : Nat) :
    x * (∑ e : Fin 3, w e * (if p = q + e.1 then 1 else 0)) = ∑ e : Fin 3, (if p = q + e.1 then x * w e else 0) := by
  simp only [Fin.sum_univ_three, Fin.val_zero, Fin.val_one, Fin.val_two]
  rcases Nat.lt_or_ge p q with h | h
  · simp [show p ≠ q by omega, show p ≠ q + 1 by omega, show p ≠ q + 2 by omega]
  · obtain ⟨r, rfl⟩ := Nat.exists_eq_add_of_le h
    rcases r with _ | _ | _ | r <;> simp

/-- A sum against the band: the three taps. -/
theorem sum_band {N : Nat} (f : Fin N → EReal) (w : Fin 3 → EReal) (q : Nat) (hq : q + 2 < N) :
    ∑ p : Fin N, f p * (∑ e : Fin 3, w e * (if p.1 = q + e.1 then 1 else 0))
      = ∑ e : Fin 3, w e * f ⟨q + e.1, by omega⟩ := by
  simp only [mul_band]
  rw [Finset.sum_comm]
  refine Finset.sum_congr rfl fun e _ => ?_
  rw [Finset.sum_eq_single (⟨q + e.1, by omega⟩ : Fin N)]
  · rw [if_pos rfl]; exact EReal.mul_comm _ _
  · intro p _ hp
    rw [if_neg fun h => hp (Fin.ext h)]
  · exact fun h => (h (Finset.mem_univ _)).elim

/-- The first layer's row: the band, and on the last lane, which the taps do not reach and where the row holds 1, a bias. -/
theorem sum_band_bias (f : Fin 32 → EReal) (w : Fin 3 → EReal) (q : Nat) (hq : q < 26) (h1 : f 31 = 1) (c β : EReal)
    (hβ : β = c) :
    ∑ p : Fin 32, f p * ((∑ e : Fin 3, w e * (if p.1 = q + e.1 then 1 else 0)) + (if p.1 = 31 then c else 0))
      = (∑ e : Fin 3, w e * f ⟨q + e.1, by omega⟩) + β := by
  subst hβ
  rw [← sum_band f w q (by omega)]
  rw [show (∑ p : Fin 32, f p * ((∑ e : Fin 3, w e * (if p.1 = q + e.1 then 1 else 0)) + (if p.1 = 31 then β else 0)))
      = ∑ p : Fin 32, (f p * (∑ e : Fin 3, w e * (if p.1 = q + e.1 then 1 else 0)) + (if p.1 = 31 then β else 0)) from ?_]
  · rw [Finset.sum_add_distrib]
    congr 1
    rw [Finset.sum_eq_single (31 : Fin 32)]
    · rfl
    · intro p _ hp
      exact if_neg fun h => hp (Fin.ext h)
    · exact fun h => (h (Finset.mem_univ _)).elim
  · refine Finset.sum_congr rfl fun p _ => ?_
    by_cases hp : p.1 = 31
    · have hp' : p = 31 := Fin.ext hp
      subst hp'
      have z : (∑ e : Fin 3, w e * (if (31 : Fin 32).1 = q + e.1 then 1 else 0)) = 0 := by
        refine Finset.sum_eq_zero fun e _ => ?_
        rw [if_neg (by have := e.2; show ¬ 31 = q + e.1; omega), mul_zero]
      rw [z, h1, if_pos hp, zero_add, one_mul, mul_zero, zero_add]
    · rw [if_neg hp, add_zero, add_zero]

end Cert.Net
-- ==== Proof.BlockConv1.lean ====
module

public import proofs.«01_k».proof.Proof.Gen.KernelIdeal.Value
public import proofs.«01_k».proof.Proof.SumLaws
public import Idealize.ShloMosaic.Lib.Pointwise

@[expose] public section

set_option maxRecDepth 16384

/-!
  The first convolution's layer of one block, as the body computes it: the block's rows are image row by image
  (`a * 256 + n`), and each is three rows of the padded image laid side by side against a banded table.
-/

noncomputable section

namespace Cert.KernelIdeal.Block

open Cert.KernelIdeal Cert.KernelIdeal.Gen Idealize.ShloMosaic

/-- The layer at row `r`, lane `c`: one product of 96 terms and `max · 0`. -/
theorem pay2_apply (X : Vec Ideal S40x256x32 .bf16) (T : Vec Ideal S96x832 .bf16) (r : Fin 8192) (c : Fin 832) :
    k0_pay2 X T (ix2 r c) = max (∑ x : Fin 96, (if h : x.1 < 32 then X (ix3 ⟨r.1 / 256, by omega⟩ ⟨r.1 % 256, by omega⟩ ⟨x.1, h⟩)
      else if h' : x.1 - 32 < 32 then X (ix3 ⟨(256 + r.1) / 256, by omega⟩ ⟨(256 + r.1) % 256, by omega⟩ ⟨x.1 - 32, h'⟩)
      else X (ix3 ⟨(512 + r.1) / 256, by omega⟩ ⟨(512 + r.1) % 256, by omega⟩ ⟨x.1 - 32 - 32, by omega⟩)) * T (ix2 x c)) 0 := by
  pointwise [k0_pay2]

/-- The same, tap row by tap row. -/
theorem pay2_rows (X : Vec Ideal S40x256x32 .bf16) (T : Vec Ideal S96x832 .bf16) (a : Fin 32) (n : Fin 256) (c : Fin 832) :
    k0_pay2 X T (ix2 ⟨a.1 * 256 + n.1, by omega⟩ c)
      = max (∑ d : Fin 3, ∑ p : Fin 32, X (ix3 ⟨a.1 + d.1, by omega⟩ n p) * T (ix2 ⟨d.1 * 32 + p.1, by omega⟩ c)) 0 := by
  rw [pay2_apply, Cert.Net.sum_rows 3 32 96 rfl]
  congr 1
  refine Finset.sum_congr rfl fun d _ => Finset.sum_congr rfl fun p _ => Ideal.mul_congr ?_ rfl
  have hp := p.2
  match d with
  | ⟨0, _⟩ =>
    rw [dif_pos (by show 0 * 32 + p.1 < 32; omega)]
    congr 2 <;> apply Fin.ext <;> simp only [] <;> omega
  | ⟨1, _⟩ =>
    rw [dif_neg (by show ¬ 1 * 32 + p.1 < 32; omega), dif_pos (by show 1 * 32 + p.1 - 32 < 32; omega)]
    congr 2 <;> apply Fin.ext <;> simp only [] <;> omega
  | ⟨2, _⟩ =>
    rw [dif_neg (by show ¬ 2 * 32 + p.1 < 32; omega), dif_neg (by show ¬ 2 * 32 + p.1 - 32 < 32; omega)]
    congr 2 <;> apply Fin.ext <;> simp only [] <;> omega

end Cert.KernelIdeal.Block

end
-- ==== Proof.BlockConv2.lean ====
module

public import proofs.«01_k».proof.Proof.Gen.KernelIdeal.Value
public import proofs.«01_k».proof.Proof.SumLaws
public import Idealize.ShloMosaic.Lib.Pointwise

@[expose] public section

set_option maxRecDepth 16384

/-!
  The second convolution's layer and the pooling of one group of four places of one block. The body writes the same
  operations once per group: a layer, a maximum over pairs of rows, a maximum over pairs of places.
-/

noncomputable section

namespace Cert.KernelIdeal.Block

open Cert.KernelIdeal Cert.KernelIdeal.Gen Idealize.ShloMosaic

/-- The zero accumulator of the second convolution's product. -/
abbrev zero2 : FVec Ideal S6144x256 .f32 := constant S6144x256 .f32 0x00000000#32

/-- The second convolution's layer of one group, as the body writes it. -/
def layer2 (xs : FVec Ideal S6144x576 .bf16) (t2 : FVec Ideal S576x256 .bf16) (b : Vec Ideal S1x256 .f32) : FVec Ideal S6144x256 .f32 :=
  maximumf (addf (matmul dot_S6144x576_S576x256_S6144x256_1_0_0_1_n_n none xs t2 zero2)
    (broadcastTo S6144x256 (shapeCast S1x256 b shapeCasts_S1x256_S1x256 : FVec Ideal S1x256 .f32) broadcasts_S1x256_S6144x256))
    (broadcast S6144x256 (Scalar.ofBits (F := Ideal) .f32 0x00000000#32))

/-- The maximum over pairs of rows, as the body writes it. -/
def poolRows (v : FVec Ideal S6144x256 .f32) : FVec Ideal S12x256x256 .f32 :=
  multiReduction .maximumf [1] S12x256x256 (shapeCast S12x2x256x256 v shapeCasts_S6144x256_S12x2x256x256 : FVec Ideal S12x2x256x256 .f32) 0xFF800000#32
    reduces_S12x2x256x256_S12x256x256 (.inl rfl) rfl

/-- The maximum over pairs of places, as the body writes it. -/
def poolCols (v : FVec Ideal S12x256x256 .f32) : FVec Ideal S12x256x128 .bf16 :=
  truncf .bf16 (concatenate S12x256x128 2
    [⟨S12x256x64, (maximumf (extractStridedSlice S12x256x64 ![0, 0, 0] v slices_S12x256x256_o0_0_0_S12x256x64)
        (extractStridedSlice S12x256x64 ![0, 0, 64] v slices_S12x256x256_o0_0_64_S12x256x64) : FVec Ideal S12x256x64 .f32)⟩,
     ⟨S12x256x64, (maximumf (extractStridedSlice S12x256x64 ![0, 0, 128] v slices_S12x256x256_o0_0_128_S12x256x64)
        (extractStridedSlice S12x256x64 ![0, 0, 192] v slices_S12x256x256_o0_0_192_S12x256x64) : FVec Ideal S12x256x64 .f32)⟩]
    concatenates_S12x256x64_S12x256x64_S12x256x128_d2) bitsLt_bf16_f32

/-- The body's operations of a group are those three. -/
theorem pay6_eq (xs : FVec Ideal S6144x576 .bf16) (t2 : FVec Ideal S576x256 .bf16) (b : Vec Ideal S1x256 .f32) :
    k0_pay6 xs t2 zero2 b = poolCols (poolRows (layer2 xs t2 b)) := rfl

theorem pay10_eq (xs : FVec Ideal S6144x576 .bf16) (t2 : FVec Ideal S576x256 .bf16) (b : Vec Ideal S1x256 .f32) :
    k0_pay10 xs t2 zero2 b = poolCols (poolRows (layer2 xs t2 b)) := rfl

/-- The layer at row `r`, lane `l`: one product of 576 terms, the bias and `max · 0`. -/
theorem layer2_apply (xs : FVec Ideal S6144x576 .bf16) (t2 : FVec Ideal S576x256 .bf16) (b : Vec Ideal S1x256 .f32) (r : Fin 6144) (l : Fin 256) :
    layer2 xs t2 b (ix2 r l) = max (∑ x : Fin 576, xs (ix2 r x) * t2 (ix2 x l) + b (ix2 0 l)) 0 := by
  pointwise [layer2]

/-- The fold of `max` over two entries from −∞ is their maximum. -/
theorem fold_two (f : Fin 2 → EReal) :
    Finset.fold max (Ideal.ofBits FTy.f32 0xFF800000#32) f Finset.univ = max (f 0) (f 1) := by
  have hb : Ideal.ofBits FTy.f32 0xFF800000#32 = ⊥ := by
    simp [Ideal.ofBits, Ideal.ieee]
  rw [hb, show (Finset.univ : Finset (Fin 2)) = {0, 1} from rfl]
  rw [Finset.fold_insert (by decide), Finset.fold_singleton, max_bot_right]

/-- The maximum of rows `2t` and `2t + 1`. -/
theorem poolRows_apply (v : FVec Ideal S6144x256 .f32) (t : Fin 12) (n : Fin 256) (l : Fin 256) :
    poolRows v (ix3 t n l) = max (v (ix2 ⟨t.1 * 512 + n.1, by omega⟩ l)) (v (ix2 ⟨t.1 * 512 + 256 + n.1, by omega⟩ l)) := by
  pointwise [poolRows]
  refine (fold_two _).trans (congrArg₂ max (congrArg v ?_) (congrArg v ?_)) <;>
    refine congrArg (fun r => ix2 r l) (Fin.ext ?_) <;> simp

/-- The first pooled column of the group: places 0 and 1. -/
theorem poolCols_low (v : FVec Ideal S12x256x256 .f32) (t : Fin 12) (n : Fin 256) (o : Fin 64) :
    poolCols v (ix3 t n ⟨o.1, by omega⟩) = max (v (ix3 t n ⟨o.1, by omega⟩)) (v (ix3 t n ⟨64 + o.1, by omega⟩)) := by
  pointwise [poolCols]

/-- The second pooled column of the group: places 2 and 3. -/
theorem poolCols_high (v : FVec Ideal S12x256x256 .f32) (t : Fin 12) (n : Fin 256) (o : Fin 64) :
    poolCols v (ix3 t n ⟨64 + o.1, by omega⟩) = max (v (ix3 t n ⟨128 + o.1, by omega⟩)) (v (ix3 t n ⟨192 + o.1, by omega⟩)) := by
  pointwise [poolCols]

end Cert.KernelIdeal.Block

end
-- ==== Proof.Spec.lean ====
module

public import Mathlib.Data.EReal.Operations
public import Mathlib.Algebra.BigOperators.Fin

@[expose] public section

/-!
  The network on ONE image, as plain functions on coordinates, in extended reals: two 3×3 convolutions each followed by
  `max · 0`, a 2×2 maximum pooling, and two dense layers with `max · 0` between them. Nothing here names a program.
-/

noncomputable section

namespace Cert.Net

/-- First convolution at channel `o`, place `(i, j)`: nine products, the bias, `max · 0`. -/
def conv1 (img : Fin 28 → Fin 28 → EReal) (w : Fin 32 → Fin 3 → Fin 3 → EReal) (b : Fin 32 → EReal)
    (o : Fin 32) (i j : Fin 26) : EReal :=
  max ((∑ d : Fin 3, ∑ e : Fin 3, w o d e * img ⟨i.1 + d.1, by omega⟩ ⟨j.1 + e.1, by omega⟩) + b o) 0

/-- Second convolution at channel `o`, place `(i, j)`: a sum over the taps and the 32 input channels, the bias, `max · 0`. -/
def conv2 (h : Fin 32 → Fin 26 → Fin 26 → EReal) (w : Fin 64 → Fin 32 → Fin 3 → Fin 3 → EReal) (b : Fin 64 → EReal)
    (o : Fin 64) (i j : Fin 24) : EReal :=
  max ((∑ d : Fin 3, ∑ e : Fin 3, ∑ c : Fin 32, w o c d e * h c ⟨i.1 + d.1, by omega⟩ ⟨j.1 + e.1, by omega⟩) + b o) 0

/-- The largest of the four entries of the 2×2 window `(i, j)` of channel `o`. -/
def pool (h : Fin 64 → Fin 24 → Fin 24 → EReal) (o : Fin 64) (i j : Fin 12) : EReal :=
  max (max (h o ⟨2 * i.1, by omega⟩ ⟨2 * j.1, by omega⟩) (h o ⟨2 * i.1 + 1, by omega⟩ ⟨2 * j.1, by omega⟩))
    (max (h o ⟨2 * i.1, by omega⟩ ⟨2 * j.1 + 1, by omega⟩) (h o ⟨2 * i.1 + 1, by omega⟩ ⟨2 * j.1 + 1, by omega⟩))

/-- First dense layer at unit `k`: the pooled entries against row `k` of the weights (channel, row, column in row-major
    order), the bias, `max · 0`. -/
def dense1 (p : Fin 64 → Fin 12 → Fin 12 → EReal) (w : Fin 128 → Fin 9216 → EReal) (b : Fin 128 → EReal) (k : Fin 128) : EReal :=
  max ((∑ o : Fin 64, ∑ i : Fin 12, ∑ j : Fin 12, p o i j * w k ⟨o.1 * 144 + i.1 * 12 + j.1, by omega⟩) + b k) 0

/-- Second dense layer at class `l`. -/
def dense2 (f : Fin 128 → EReal) (w : Fin 10 → Fin 128 → EReal) (b : Fin 10 → EReal) (l : Fin 10) : EReal :=
  (∑ k : Fin 128, f k * w l k) + b l

/-- The parameters of the network. -/
structure Params where
  w1 : Fin 32 → Fin 3 → Fin 3 → EReal
  b1 : Fin 32 → EReal
  w2 : Fin 64 → Fin 32 → Fin 3 → Fin 3 → EReal
  b2 : Fin 64 → EReal
  w3 : Fin 128 → Fin 9216 → EReal
  b3 : Fin 128 → EReal
  w4 : Fin 10 → Fin 128 → EReal
  b4 : Fin 10 → EReal

/-- The two convolutions of an image. -/
def feat (P : Params) (img : Fin 28 → Fin 28 → EReal) : Fin 64 → Fin 24 → Fin 24 → EReal :=
  conv2 (conv1 img P.w1 P.b1) P.w2 P.b2

/-- The whole network on one image: the ten scores. -/
def net (P : Params) (img : Fin 28 → Fin 28 → EReal) : Fin 10 → EReal :=
  dense2 (dense1 (pool (feat P img)) P.w3 P.b3) P.w4 P.b4

end Cert.Net

end
-- ==== Proof.BlockGroup.lean ====
module

public import proofs.«01_k».proof.Proof.BlockConv2
public import proofs.«01_k».proof.Proof.Spec

@[expose] public section

set_option maxRecDepth 16384

/-!
  One group of four places of one block: three shifted windows of the first hidden array side by side, against the banded
  table of the second convolution, give the second convolution of the network; the two maxima give its pooling.
-/

noncomputable section

namespace Cert.KernelIdeal.Block

open Cert.KernelIdeal Cert.KernelIdeal.Gen Idealize.ShloMosaic

/-- The three windows of the first hidden array at lane `o`, side by side, as the body lays them. -/
def taps (v : FVec Ideal S8192x832 .bf16) (o : Nat) (h0 : S8192x832.Slices ![0, o] S6144x192)
    (h1 : S8192x832.Slices ![256, o] S6144x192) (h2 : S8192x832.Slices ![512, o] S6144x192) : FVec Ideal S6144x576 .bf16 :=
  concatenate S6144x576 1 [⟨S6144x192, (extractStridedSlice S6144x192 ![0, o] v h0 : FVec Ideal S6144x192 .bf16)⟩,
    ⟨S6144x192, (extractStridedSlice S6144x192 ![256, o] v h1 : FVec Ideal S6144x192 .bf16)⟩,
    ⟨S6144x192, (extractStridedSlice S6144x192 ![512, o] v h2 : FVec Ideal S6144x192 .bf16)⟩]
    concatenates_S6144x192_S6144x192_S6144x192_S6144x576_d1

theorem taps_apply (v : FVec Ideal S8192x832 .bf16) (o : Nat) (ho : o ≤ 640) (h0 : S8192x832.Slices ![0, o] S6144x192)
    (h1 : S8192x832.Slices ![256, o] S6144x192) (h2 : S8192x832.Slices ![512, o] S6144x192) (r : Fin 6144) (x : Fin 576) :
    taps v o h0 h1 h2 (ix2 r x) = if h : x.1 < 192 then v (ix2 ⟨r.1, by omega⟩ ⟨o + x.1, by omega⟩)
      else if h' : x.1 - 192 < 192 then v (ix2 ⟨256 + r.1, by omega⟩ ⟨o + (x.1 - 192), by omega⟩)
      else v (ix2 ⟨512 + r.1, by omega⟩ ⟨o + (x.1 - 192 - 192), by omega⟩) := by
  pointwise [taps]

/-- The window of tap row `d`, entry `q`. -/
theorem taps_at (v : FVec Ideal S8192x832 .bf16) (o : Nat) (ho : o ≤ 640) (h0 : S8192x832.Slices ![0, o] S6144x192)
    (h1 : S8192x832.Slices ![256, o] S6144x192) (h2 : S8192x832.Slices ![512, o] S6144x192) (r : Fin 6144) (d : Fin 3) (q : Fin 192) :
    taps v o h0 h1 h2 (ix2 r ⟨d.1 * 192 + q.1, by omega⟩) = v (ix2 ⟨r.1 + d.1 * 256, by omega⟩ ⟨o + q.1, by omega⟩) := by
  rw [taps_apply v o ho]
  have hq := q.2
  match d with
  | ⟨0, _⟩ =>
    rw [dif_pos (by show 0 * 192 + q.1 < 192; omega)]
    congr 2 <;> apply Fin.ext <;> simp only [] <;> omega
  | ⟨1, _⟩ =>
    rw [dif_neg (by show ¬ 1 * 192 + q.1 < 192; omega), dif_pos (by show 1 * 192 + q.1 - 192 < 192; omega)]
    congr 2 <;> apply Fin.ext <;> simp only [] <;> omega
  | ⟨2, _⟩ =>
    rw [dif_neg (by show ¬ 2 * 192 + q.1 < 192; omega), dif_neg (by show ¬ 2 * 192 + q.1 - 192 < 192; omega)]
    congr 2 <;> apply Fin.ext <;> simp only [] <;> omega

/-- What the second convolution's table holds: the weights, banded over the places. -/
def IsBand2 (T : FVec Ideal S576x256 .bf16) (W : Fin 64 → Fin 32 → Fin 3 → Fin 3 → EReal) : Prop :=
  ∀ (r : Fin 576) (k : Fin 256), T (ix2 r k) = ∑ e : Fin 3, W ⟨k.1 % 64, by omega⟩ ⟨r.1 % 32, by omega⟩ ⟨r.1 / 192, by omega⟩ e
    * (if r.1 / 32 % 6 = k.1 / 64 + e.1 then 1 else 0)

/-- What the first hidden array holds: image row by image row, place by place, channel by channel. -/
def IsHidden (v : FVec Ideal S8192x832 .bf16) (H : Fin 256 → Fin 32 → Fin 26 → Fin 26 → EReal) : Prop :=
  ∀ (a : Fin 26) (n : Fin 256) (j : Fin 26) (c : Fin 32),
    v (ix2 ⟨a.1 * 256 + n.1, by omega⟩ ⟨j.1 * 32 + c.1, by omega⟩) = H n c a j

variable {v : FVec Ideal S8192x832 .bf16} {H : Fin 256 → Fin 32 → Fin 26 → Fin 26 → EReal}
  {T : FVec Ideal S576x256 .bf16} {W : Fin 64 → Fin 32 → Fin 3 → Fin 3 → EReal}
  {b : Vec Ideal S1x256 .f32} {B : Fin 64 → EReal}

/-- The layer of group `g` at image row `a`, image `n`, place `q` of the group, channel `k`. -/
theorem layer2_at (hv : IsHidden v H) (hT : IsBand2 T W) (hb : ∀ k : Fin 256, b (ix2 0 k) = B ⟨k.1 % 64, by omega⟩)
    (g : Fin 6) (o : Nat) (ho : o = 128 * g.1) (h0 : S8192x832.Slices ![0, o] S6144x192)
    (h1 : S8192x832.Slices ![256, o] S6144x192) (h2 : S8192x832.Slices ![512, o] S6144x192)
    (a : Fin 24) (n : Fin 256) (q : Fin 4) (k : Fin 64) :
    layer2 (taps v o h0 h1 h2) T b (ix2 ⟨a.1 * 256 + n.1, by omega⟩ ⟨q.1 * 64 + k.1, by omega⟩)
      = Cert.Net.conv2 (H n) W B k a ⟨4 * g.1 + q.1, by omega⟩ := by
  rw [layer2_apply, hb, Cert.Net.sum_rows 3 192 576 rfl, Cert.Net.conv2]
  have e1 : (q.1 * 64 + k.1) % 64 = k.1 := by omega
  have e2 : (q.1 * 64 + k.1) / 64 = q.1 := by omega
  simp only [e1, Fin.eta]
  refine congrArg (fun s => max (s + B k) 0) (Finset.sum_congr rfl fun d _ => ?_)
  rw [Cert.Net.sum_rows 6 32 192 rfl, Finset.sum_comm, Finset.sum_comm (γ := Fin 3)]
  refine Finset.sum_congr rfl fun c _ => ?_
  have key := Cert.Net.sum_band (N := 6) (fun p => H n c ⟨a.1 + d.1, by omega⟩ ⟨4 * g.1 + p.1, by omega⟩) (fun e => W k c d e) q.1 (by omega)
  refine Eq.trans (Finset.sum_congr rfl fun p _ => ?_) (key.trans (Finset.sum_congr rfl fun e _ => ?_))
  · rw [taps_at v o (by omega) h0 h1 h2, hT]
    refine Ideal.mul_congr ?_ ?_
    · refine Eq.trans (congrArg v ?_) (hv ⟨a.1 + d.1, by omega⟩ n ⟨4 * g.1 + p.1, by omega⟩ c)
      refine congrArg₂ ix2 (Fin.ext ?_) (Fin.ext ?_) <;> simp only [] <;> omega
    · have f1 : (d.1 * 192 + (p.1 * 32 + c.1)) % 32 = c.1 := by omega
      have f2 : (d.1 * 192 + (p.1 * 32 + c.1)) / 192 = d.1 := by omega
      have f3 : (d.1 * 192 + (p.1 * 32 + c.1)) / 32 % 6 = p.1 := by omega
      simp only [e1, e2, f1, f2, f3, Fin.eta]
  · simp only [Nat.add_assoc]

/-- The pooled group: `s` is the pooled column within the group. -/
theorem group_at (hv : IsHidden v H) (hT : IsBand2 T W) (hb : ∀ k : Fin 256, b (ix2 0 k) = B ⟨k.1 % 64, by omega⟩)
    (g : Fin 6) (o : Nat) (ho : o = 128 * g.1) (h0 : S8192x832.Slices ![0, o] S6144x192)
    (h1 : S8192x832.Slices ![256, o] S6144x192) (h2 : S8192x832.Slices ![512, o] S6144x192)
    (t : Fin 12) (n : Fin 256) (s : Fin 2) (k : Fin 64) :
    poolCols (poolRows (layer2 (taps v o h0 h1 h2) T b)) (ix3 t n ⟨s.1 * 64 + k.1, by omega⟩)
      = Cert.Net.pool (Cert.Net.conv2 (H n) W B) k t ⟨2 * g.1 + s.1, by omega⟩ := by
  have L : ∀ (a : Fin 24) (q : Fin 4) (r : Fin 6144) (l : Fin 256), r.1 = a.1 * 256 + n.1 → l.1 = q.1 * 64 + k.1 →
      layer2 (taps v o h0 h1 h2) T b (ix2 r l) = Cert.Net.conv2 (H n) W B k a ⟨4 * g.1 + q.1, by omega⟩ := by
    intro a q r l hr hl
    refine Eq.trans (congrArg _ (congrArg₂ ix2 (Fin.ext ?_) (Fin.ext ?_))) (layer2_at hv hT hb g o ho h0 h1 h2 a n q k)
    · exact hr
    · exact hl
  match s with
  | ⟨0, _⟩ =>
    refine Eq.trans (congrArg _ (congrArg (ix3 t n) (Fin.ext ?_))) ((poolCols_low _ t n k).trans ?_)
    · show 0 * 64 + k.1 = k.1; omega
    rw [poolRows_apply, poolRows_apply,
      L ⟨2 * t.1, by omega⟩ 0 _ _ (by show _ = 2 * t.1 * 256 + n.1; (try simp only []) <;> omega) (by show _ = 0 * 64 + k.1; (try simp only []) <;> omega),
      L ⟨2 * t.1 + 1, by omega⟩ 0 _ _ (by show _ = (2 * t.1 + 1) * 256 + n.1; (try simp only []) <;> omega) (by show _ = 0 * 64 + k.1; (try simp only []) <;> omega),
      L ⟨2 * t.1, by omega⟩ 1 _ _ (by show _ = 2 * t.1 * 256 + n.1; (try simp only []) <;> omega) (by show _ = 1 * 64 + k.1; (try simp only []) <;> omega),
      L ⟨2 * t.1 + 1, by omega⟩ 1 _ _ (by show _ = (2 * t.1 + 1) * 256 + n.1; (try simp only []) <;> omega) (by show _ = 1 * 64 + k.1; (try simp only []) <;> omega)]
    have j0 : 4 * g.1 + (0 : Fin 4).1 = 2 * (2 * g.1 + 0) := by show 4 * g.1 + 0 = _; omega
    have j1 : 4 * g.1 + (1 : Fin 4).1 = 2 * (2 * g.1 + 0) + 1 := by show 4 * g.1 + 1 = _; omega
    simp only [Cert.Net.pool, j0, j1]
  | ⟨1, _⟩ =>
    refine Eq.trans (congrArg _ (congrArg (ix3 t n) (Fin.ext ?_))) ((poolCols_high _ t n k).trans ?_)
    · show 1 * 64 + k.1 = 64 + k.1; omega
    rw [poolRows_apply, poolRows_apply,
      L ⟨2 * t.1, by omega⟩ 2 _ _ (by show _ = 2 * t.1 * 256 + n.1; (try simp only []) <;> omega) (by show _ = 2 * 64 + k.1; (try simp only []) <;> omega),
      L ⟨2 * t.1 + 1, by omega⟩ 2 _ _ (by show _ = (2 * t.1 + 1) * 256 + n.1; (try simp only []) <;> omega) (by show _ = 2 * 64 + k.1; (try simp only []) <;> omega),
      L ⟨2 * t.1, by omega⟩ 3 _ _ (by show _ = 2 * t.1 * 256 + n.1; (try simp only []) <;> omega) (by show _ = 3 * 64 + k.1; (try simp only []) <;> omega),
      L ⟨2 * t.1 + 1, by omega⟩ 3 _ _ (by show _ = (2 * t.1 + 1) * 256 + n.1; (try simp only []) <;> omega) (by show _ = 3 * 64 + k.1; (try simp only []) <;> omega)]
    have j0 : 4 * g.1 + (2 : Fin 4).1 = 2 * (2 * g.1 + 1) := by show 4 * g.1 + 2 = _; omega
    have j1 : 4 * g.1 + (3 : Fin 4).1 = 2 * (2 * g.1 + 1) + 1 := by show 4 * g.1 + 3 = _; omega
    simp only [Cert.Net.pool, j0, j1]

end Cert.KernelIdeal.Block

end
-- ==== Proof.BlockDense.lean ====
module

public import proofs.«01_k».proof.Proof.BlockGroup

@[expose] public section

set_option maxRecDepth 16384

/-!
  The dense layers of one block: the six pooled groups laid into one array, its twelve products against the twelve slices
  of the first dense layer's weights, added up, the bias and `max · 0`, and the second dense layer.
-/

noncomputable section

namespace Cert.KernelIdeal.Block

open Cert.KernelIdeal Cert.KernelIdeal.Gen Idealize.ShloMosaic

/-- The six groups side by side, rows merged, as the body lays them. -/
def rows6 (p0 p1 p2 p3 p4 p5 : FVec Ideal S12x256x128 .bf16) : FVec Ideal S3072x768 .bf16 :=
  shapeCast S3072x768 (concatenate S12x256x768 2 [⟨S12x256x128, p0⟩, ⟨S12x256x128, p1⟩, ⟨S12x256x128, p2⟩,
      ⟨S12x256x128, p3⟩, ⟨S12x256x128, p4⟩, ⟨S12x256x128, p5⟩]
    concatenates_S12x256x128_S12x256x128_S12x256x128_S12x256x128_S12x256x128_S12x256x128_S12x256x768_d2
    : FVec Ideal S12x256x768 .bf16) shapeCasts_S12x256x768_S3072x768

theorem pay14_eq (p0 p1 p2 p3 p4 : FVec Ideal S12x256x128 .bf16) (xs : FVec Ideal S6144x576 .bf16) (t2 : FVec Ideal S576x256 .bf16)
    (b : Vec Ideal S1x256 .f32) :
    k0_pay14 p0 p1 p2 p3 p4 xs t2 zero2 b = rows6 p0 p1 p2 p3 p4 (poolCols (poolRows (layer2 xs t2 b))) := rfl

theorem rows6_apply (p0 p1 p2 p3 p4 p5 : FVec Ideal S12x256x128 .bf16) (r : Fin 3072) (x : Fin 768) :
    rows6 p0 p1 p2 p3 p4 p5 (ix2 r x)
      = if h0 : x.1 < 128 then p0 (ix3 ⟨r.1 / 256, by omega⟩ ⟨r.1 % 256, by omega⟩ ⟨x.1, h0⟩)
        else if h1 : x.1 - 128 < 128 then p1 (ix3 ⟨r.1 / 256, by omega⟩ ⟨r.1 % 256, by omega⟩ ⟨x.1 - 128, h1⟩)
        else if h2 : x.1 - 128 - 128 < 128 then p2 (ix3 ⟨r.1 / 256, by omega⟩ ⟨r.1 % 256, by omega⟩ ⟨x.1 - 128 - 128, h2⟩)
        else if h3 : x.1 - 128 - 128 - 128 < 128 then p3 (ix3 ⟨r.1 / 256, by omega⟩ ⟨r.1 % 256, by omega⟩ ⟨x.1 - 128 - 128 - 128, h3⟩)
        else if h4 : x.1 - 128 - 128 - 128 - 128 < 128 then
          p4 (ix3 ⟨r.1 / 256, by omega⟩ ⟨r.1 % 256, by omega⟩ ⟨x.1 - 128 - 128 - 128 - 128, h4⟩)
        else p5 (ix3 ⟨r.1 / 256, by omega⟩ ⟨r.1 % 256, by omega⟩ ⟨x.1 - 128 - 128 - 128 - 128 - 128, by omega⟩) := by
  pointwise [rows6]

/-- Lane `l` of group `g` in the flat array. -/
theorem rows6_at (p : Fin 6 → FVec Ideal S12x256x128 .bf16) (t : Fin 12) (n : Fin 256) (g : Fin 6) (l : Fin 128) :
    rows6 (p 0) (p 1) (p 2) (p 3) (p 4) (p 5) (ix2 ⟨256 * t.1 + n.1, by omega⟩ ⟨g.1 * 128 + l.1, by omega⟩) = p g (ix3 t n l) := by
  rw [rows6_apply]
  have hl := l.2
  have ht : (256 * t.1 + n.1) / 256 = t.1 := by omega
  have hn : (256 * t.1 + n.1) % 256 = n.1 := by omega
  simp only [ht, hn, Fin.eta]
  match g with
  | ⟨0, _⟩ =>
    rw [dif_pos (by show 0 * 128 + l.1 < 128; omega)]
    exact congrArg (p 0) (congrArg (ix3 t n) (Fin.ext (by show 0 * 128 + l.1 = l.1; omega)))
  | ⟨1, _⟩ =>
    rw [dif_neg (by show ¬ 1 * 128 + l.1 < 128; omega),
      dif_pos (by show 1 * 128 + l.1 - 128 < 128; omega)]
    exact congrArg (p 1) (congrArg (ix3 t n) (Fin.ext (by show 1 * 128 + l.1 - 128 = l.1; omega)))
  | ⟨2, _⟩ =>
    rw [dif_neg (by show ¬ 2 * 128 + l.1 < 128; omega),
      dif_neg (by show ¬ 2 * 128 + l.1 - 128 < 128; omega),
      dif_pos (by show 2 * 128 + l.1 - 128 - 128 < 128; omega)]
    exact congrArg (p 2) (congrArg (ix3 t n) (Fin.ext (by show 2 * 128 + l.1 - 128 - 128 = l.1; omega)))
  | ⟨3, _⟩ =>
    rw [dif_neg (by show ¬ 3 * 128 + l.1 < 128; omega),
      dif_neg (by show ¬ 3 * 128 + l.1 - 128 < 128; omega),
      dif_neg (by show ¬ 3 * 128 + l.1 - 128 - 128 < 128; omega),
      dif_pos (by show 3 * 128 + l.1 - 128 - 128 - 128 < 128; omega)]
    exact congrArg (p 3) (congrArg (ix3 t n) (Fin.ext (by show 3 * 128 + l.1 - 128 - 128 - 128 = l.1; omega)))
  | ⟨4, _⟩ =>
    rw [dif_neg (by show ¬ 4 * 128 + l.1 < 128; omega),
      dif_neg (by show ¬ 4 * 128 + l.1 - 128 < 128; omega),
      dif_neg (by show ¬ 4 * 128 + l.1 - 128 - 128 < 128; omega),
      dif_neg (by show ¬ 4 * 128 + l.1 - 128 - 128 - 128 < 128; omega),
      dif_pos (by show 4 * 128 + l.1 - 128 - 128 - 128 - 128 < 128; omega)]
    exact congrArg (p 4) (congrArg (ix3 t n) (Fin.ext (by show 4 * 128 + l.1 - 128 - 128 - 128 - 128 = l.1; omega)))
  | ⟨5, _⟩ =>
    rw [dif_neg (by show ¬ 5 * 128 + l.1 < 128; omega),
      dif_neg (by show ¬ 5 * 128 + l.1 - 128 < 128; omega),
      dif_neg (by show ¬ 5 * 128 + l.1 - 128 - 128 < 128; omega),
      dif_neg (by show ¬ 5 * 128 + l.1 - 128 - 128 - 128 < 128; omega),
      dif_neg (by show ¬ 5 * 128 + l.1 - 128 - 128 - 128 - 128 < 128; omega)]
    exact congrArg (p 5) (congrArg (ix3 t n) (Fin.ext (by show 5 * 128 + l.1 - 128 - 128 - 128 - 128 - 128 = l.1; omega)))

/-- One product of the first dense layer: rows `o …` of the flat array against one slice of the weights. -/
def prod (f : FVec Ideal S3072x768 .bf16) (o : Nat) (h : S3072x768.Slices ![o, 0] S256x768) (w : Vec Ideal S1x768x128 .bf16) : FVec Ideal S256x128 .f32 :=
  matmul dot_S256x768_S768x128_S256x128_1_0_0_1_n_n none (extractStridedSlice S256x768 ![o, 0] f h : FVec Ideal S256x768 .bf16)
    (shapeCast S768x128 w shapeCasts_S1x768x128_S768x128 : FVec Ideal S768x128 .bf16) (constant S256x128 .f32 0x00000000#32)

theorem prod_apply (f : FVec Ideal S3072x768 .bf16) (o : Nat) (ho : o ≤ 2816) (h : S3072x768.Slices ![o, 0] S256x768)
    (w : Vec Ideal S1x768x128 .bf16) (n : Fin 256) (k : Fin 128) :
    prod f o h w (ix2 n k) = ∑ x : Fin 768, f (ix2 ⟨o + n.1, by omega⟩ x) * w (ix3 0 x k) := by
  pointwise [prod]

/-- The second dense layer, from the sum of the products, as the body writes it. -/
def tailLayers (s : FVec Ideal S256x128 .f32) (b1 : Vec Ideal S1x128 .f32) (w2 : Vec Ideal S128x128 .bf16) (b2 : Vec Ideal S1x128 .f32) : FVec Ideal S256x10 .f32 :=
  extractStridedSlice S256x10 ![0, 0]
    (addf (matmul dot_S256x128_S128x128_S256x128_1_0_0_1_n_n none
        (truncf .bf16 (maximumf (addf s (broadcastTo S256x128 (shapeCast S1x128 b1 shapeCasts_S1x128_S1x128 : FVec Ideal S1x128 .f32) broadcasts_S1x128_S256x128))
          (broadcast S256x128 (Scalar.ofBits (F := Ideal) .f32 0x00000000#32)) : FVec Ideal S256x128 .f32) bitsLt_bf16_f32)
        (shapeCast S128x128 w2 shapeCasts_S128x128_S128x128 : FVec Ideal S128x128 .bf16) (constant S256x128 .f32 0x00000000#32))
      (broadcastTo S256x128 (shapeCast S1x128 b2 shapeCasts_S1x128_S1x128 : FVec Ideal S1x128 .f32) broadcasts_S1x128_S256x128))
    slices_S256x128_o0_0_S256x10

theorem tailLayers_apply (s : FVec Ideal S256x128 .f32) (b1 : Vec Ideal S1x128 .f32) (w2 : Vec Ideal S128x128 .bf16) (b2 : Vec Ideal S1x128 .f32)
    (n : Fin 256) (l : Fin 10) :
    tailLayers s b1 w2 b2 (ix2 n l)
      = (∑ k : Fin 128, max (s (ix2 n k) + b1 (ix2 0 k)) 0 * w2 (ix2 k ⟨l.1, by omega⟩)) + b2 (ix2 0 ⟨l.1, by omega⟩) := by
  pointwise [tailLayers]

/-- The twelve products, added from the left, as the body adds them. -/
def sum12 (f : FVec Ideal S3072x768 .bf16) (w : Fin 12 → Vec Ideal S1x768x128 .bf16) : FVec Ideal S256x128 .f32 :=
  addf (addf (addf (addf (addf (addf (addf (addf (addf (addf (addf (prod f 0 slices_S3072x768_o0_0_S256x768 (w 0)) (prod f 256 slices_S3072x768_o256_0_S256x768 (w 1)))
    (prod f 512 slices_S3072x768_o512_0_S256x768 (w 2))) (prod f 768 slices_S3072x768_o768_0_S256x768 (w 3)))
    (prod f 1024 slices_S3072x768_o1024_0_S256x768 (w 4))) (prod f 1280 slices_S3072x768_o1280_0_S256x768 (w 5)))
    (prod f 1536 slices_S3072x768_o1536_0_S256x768 (w 6))) (prod f 1792 slices_S3072x768_o1792_0_S256x768 (w 7)))
    (prod f 2048 slices_S3072x768_o2048_0_S256x768 (w 8))) (prod f 2304 slices_S3072x768_o2304_0_S256x768 (w 9)))
    (prod f 2560 slices_S3072x768_o2560_0_S256x768 (w 10))) (prod f 2816 slices_S3072x768_o2816_0_S256x768 (w 11))

/-- A sum of twelve terms, from the left. -/
theorem sum_twelve (g : Fin 12 → EReal) :
    ∑ t, g t = g 0 + g 1 + g 2 + g 3 + g 4 + g 5 + g 6 + g 7 + g 8 + g 9 + g 10 + g 11 := by
  simp only [Fin.sum_univ_castSucc, Fin.sum_univ_zero, zero_add]
  rfl

theorem sum12_apply (f : FVec Ideal S3072x768 .bf16) (w : Fin 12 → Vec Ideal S1x768x128 .bf16) (n : Fin 256) (k : Fin 128) :
    sum12 f w (ix2 n k) = ∑ t : Fin 12, ∑ x : Fin 768, f (ix2 ⟨256 * t.1 + n.1, by omega⟩ x) * w t (ix3 0 x k) := by
  rw [sum_twelve]
  have e : ∀ (t : Fin 12) (o : Nat) (h : S3072x768.Slices ![o, 0] S256x768), o = 256 * t.1 →
      prod f o h (w t) (ix2 n k) = ∑ x : Fin 768, f (ix2 ⟨256 * t.1 + n.1, by omega⟩ x) * w t (ix3 0 x k) := by
    rintro t o h rfl
    exact prod_apply f _ (by omega) h (w t) n k
  rw [← e 0 0 slices_S3072x768_o0_0_S256x768 rfl, ← e 1 256 slices_S3072x768_o256_0_S256x768 rfl,
    ← e 2 512 slices_S3072x768_o512_0_S256x768 rfl, ← e 3 768 slices_S3072x768_o768_0_S256x768 rfl,
    ← e 4 1024 slices_S3072x768_o1024_0_S256x768 rfl, ← e 5 1280 slices_S3072x768_o1280_0_S256x768 rfl,
    ← e 6 1536 slices_S3072x768_o1536_0_S256x768 rfl, ← e 7 1792 slices_S3072x768_o1792_0_S256x768 rfl,
    ← e 8 2048 slices_S3072x768_o2048_0_S256x768 rfl, ← e 9 2304 slices_S3072x768_o2304_0_S256x768 rfl,
    ← e 10 2560 slices_S3072x768_o2560_0_S256x768 rfl, ← e 11 2816 slices_S3072x768_o2816_0_S256x768 rfl]
  rfl

end Cert.KernelIdeal.Block

end
-- ==== Proof.BlockValue.lean ====
module

public import proofs.«01_k».proof.Proof.BlockConv1
public import proofs.«01_k».proof.Proof.BlockDense
public import Idealize.ShloMosaic.Lib.Pipeline.ValueKit.Tiles

@[expose] public section

set_option maxRecDepth 16384

/-!
  What one block computes: from a block of 256 images and the prepared tables, the network's scores of those images.
-/

noncomputable section

namespace Cert.KernelIdeal.Block

open Cert.KernelIdeal Cert.KernelIdeal.Gen Idealize.ShloMosaic

/-- The table as the body casts it (to its own shape). -/
abbrev table2 (x2 : Vec Ideal S576x256 .bf16) : FVec Ideal S576x256 .bf16 := shapeCast S576x256 x2 shapeCasts_S576x256_S576x256

/-- One group of places of the block, from the first hidden array. -/
abbrev group (v : FVec Ideal S8192x832 .bf16) (x2 : Vec Ideal S576x256 .bf16) (x3 : Vec Ideal S1x256 .f32) (o : Nat)
    (h0 : S8192x832.Slices ![0, o] S6144x192) (h1 : S8192x832.Slices ![256, o] S6144x192) (h2 : S8192x832.Slices ![512, o] S6144x192) :
    FVec Ideal S12x256x128 .bf16 :=
  poolCols (poolRows (layer2 (taps v o h0 h1 h2) (table2 x2) x3))

/-- The six groups of the block. -/
def groups (v : FVec Ideal S8192x832 .bf16) (x2 : Vec Ideal S576x256 .bf16) (x3 : Vec Ideal S1x256 .f32) :
    Fin 6 → FVec Ideal S12x256x128 .bf16 :=
  ![group v x2 x3 0 slices_S8192x832_o0_0_S6144x192 slices_S8192x832_o256_0_S6144x192 slices_S8192x832_o512_0_S6144x192,
    group v x2 x3 128 slices_S8192x832_o0_128_S6144x192 slices_S8192x832_o256_128_S6144x192 slices_S8192x832_o512_128_S6144x192,
    group v x2 x3 256 slices_S8192x832_o0_256_S6144x192 slices_S8192x832_o256_256_S6144x192 slices_S8192x832_o512_256_S6144x192,
    group v x2 x3 384 slices_S8192x832_o0_384_S6144x192 slices_S8192x832_o256_384_S6144x192 slices_S8192x832_o512_384_S6144x192,
    group v x2 x3 512 slices_S8192x832_o0_512_S6144x192 slices_S8192x832_o256_512_S6144x192 slices_S8192x832_o512_512_S6144x192,
    group v x2 x3 640 slices_S8192x832_o0_640_S6144x192 slices_S8192x832_o256_640_S6144x192 slices_S8192x832_o512_640_S6144x192]

/-- The flat array of the block. -/
def flat (v : FVec Ideal S8192x832 .bf16) (x2 : Vec Ideal S576x256 .bf16) (x3 : Vec Ideal S1x256 .f32) : FVec Ideal S3072x768 .bf16 :=
  rows6 (groups v x2 x3 0) (groups v x2 x3 1) (groups v x2 x3 2) (groups v x2 x3 3) (groups v x2 x3 4) (groups v x2 x3 5)

/-- The twelve slices of the first dense layer's weights that the body loads. -/
def slicesOf (x4 : Vec Ideal S12x768x128 .bf16) : Fin 12 → Vec Ideal S1x768x128 .bf16 :=
  ![View.ld x4 r0_4, View.ld x4 r0_5, View.ld x4 r0_6, View.ld x4 r0_7, View.ld x4 r0_8, View.ld x4 r0_9, View.ld x4 r0_10,
    View.ld x4 r0_11, View.ld x4 r0_12, View.ld x4 r0_13, View.ld x4 r0_14, View.ld x4 r0_15]

theorem ld_slice (x4 : Vec Ideal S12x768x128 .bf16) (o : Nat) (ho : o < 12) (inb) (x : Fin 768) (k : Fin 128) :
    View.ld x4 (Rect.unit (s := S12x768x128) ![o, 0, 0] S1x768x128.size inb) (ix3 0 x k) = x4 (ix3 ⟨o, ho⟩ x k) := by
  refine View.ld_unit_apply_of x4 _ _ _ _ _ fun a => ?_
  match a with
  | ⟨0, _⟩ => rfl
  | ⟨1, _⟩ => exact (Nat.zero_add _).symm
  | ⟨2, _⟩ => exact (Nat.zero_add _).symm

theorem slicesOf_at (x4 : Vec Ideal S12x768x128 .bf16) (t : Fin 12) (x : Fin 768) (k : Fin 128) :
    slicesOf x4 t (ix3 0 x k) = x4 (ix3 t x k) := by
  match t with
  | ⟨0, h⟩ => exact ld_slice x4 0 h _ x k
  | ⟨1, h⟩ => exact ld_slice x4 1 h _ x k
  | ⟨2, h⟩ => exact ld_slice x4 2 h _ x k
  | ⟨3, h⟩ => exact ld_slice x4 3 h _ x k
  | ⟨4, h⟩ => exact ld_slice x4 4 h _ x k
  | ⟨5, h⟩ => exact ld_slice x4 5 h _ x k
  | ⟨6, h⟩ => exact ld_slice x4 6 h _ x k
  | ⟨7, h⟩ => exact ld_slice x4 7 h _ x k
  | ⟨8, h⟩ => exact ld_slice x4 8 h _ x k
  | ⟨9, h⟩ => exact ld_slice x4 9 h _ x k
  | ⟨10, h⟩ => exact ld_slice x4 10 h _ x k
  | ⟨11, h⟩ => exact ld_slice x4 11 h _ x k

/-- The flat array, as the body computes it from its loads. -/
theorem pay28_eq (x0 : Vec Ideal S40x256x32 .bf16) (x1 : Vec Ideal S96x832 .bf16) (x2 : Vec Ideal S576x256 .bf16) (x3 : Vec Ideal S1x256 .f32)
    (x4 : Vec Ideal S12x768x128 .bf16) (x5 : Vec Ideal S1x128 .f32) (x6 : Vec Ideal S128x128 .bf16) (x7 : Vec Ideal S1x128 .f32) :
    k0_pay28 x0 x1 x2 x3 x4 x5 x6 x7 = flat (k0_pay2 x0 x1) x2 x3 := by
  have hz0 : (![0, 0, 0] : Fin S40x256x32.rank → Nat) = fun _ => 0 := funext fun a => by fin_cases a <;> rfl
  have hz1 : (![0, 0] : Fin S96x832.rank → Nat) = fun _ => 0 := funext fun a => by fin_cases a <;> rfl
  have hz2 : (![0, 0] : Fin S576x256.rank → Nat) = fun _ => 0 := funext fun a => by fin_cases a <;> rfl
  have hz3 : (![0, 0] : Fin S1x256.rank → Nat) = fun _ => 0 := funext fun a => by fin_cases a <;> rfl
  unfold k0_pay28 k0_pay27 k0_pay26 k0_pay25 k0_pay24 k0_pay23 k0_pay22 k0_pay21 k0_pay20 k0_pay19
  rw [View.ld_unit_zero (S := S40x256x32) hz0, View.ld_unit_zero (S := S96x832) hz1, View.ld_unit_zero (S := S576x256) hz2,
    View.ld_unit_zero (S := S1x256) hz3]
  rfl

/-- The block's result, as the body computes it from its loads. -/
theorem out_eq (x0 : Vec Ideal S40x256x32 .bf16) (x1 : Vec Ideal S96x832 .bf16) (x2 : Vec Ideal S576x256 .bf16) (x3 : Vec Ideal S1x256 .f32)
    (x4 : Vec Ideal S12x768x128 .bf16) (x5 : Vec Ideal S1x128 .f32) (x6 : Vec Ideal S128x128 .bf16) (x7 : Vec Ideal S1x128 .f32) :
    out0_8 x0 x1 x2 x3 x4 x5 x6 x7 = tailLayers (sum12 (flat (k0_pay2 x0 x1) x2 x3) (slicesOf x4)) x5 x6 x7 := by
  have hz5 : (![0, 0] : Fin S1x128.rank → Nat) = fun _ => 0 := funext fun a => by fin_cases a <;> rfl
  have hz6 : (![0, 0] : Fin S128x128.rank → Nat) = fun _ => 0 := funext fun a => by fin_cases a <;> rfl
  have hz8 : (![0, 0] : Fin S256x10.rank → Nat) = fun _ => 0 := funext fun a => by fin_cases a <;> rfl
  rw [← pay28_eq x0 x1 x2 x3 x4 x5 x6 x7]
  unfold out0_8
  rw [View.canon_unit_zero (S := S256x10) hz8, View.ld_unit_zero (S := S1x128) hz5, View.ld_unit_zero (S := S128x128) hz6,
    View.ld_unit_zero (S := S1x128) hz5]
  rfl

end Cert.KernelIdeal.Block

end
-- ==== Proof.BlockNet.lean ====
module

public import proofs.«01_k».proof.Proof.BlockValue

@[expose] public section

set_option maxRecDepth 16384

/-!
  The equation for one block: where the block's images and the prepared tables hold what the host part puts there, the
  block's result is the network's scores of its 256 images.
-/

noncomputable section

namespace Cert.KernelIdeal.Block

open Cert.KernelIdeal Cert.KernelIdeal.Gen Idealize.ShloMosaic

/-- What the block's padded images hold: the image, a one at lane 31, and zeros. -/
def IsPadded (X : Vec Ideal S40x256x32 .bf16) (img : Fin 256 → Fin 28 → Fin 28 → EReal) : Prop :=
  ∀ (a : Fin 40) (n : Fin 256) (p : Fin 32), X (ix3 a n p)
    = if p.1 = 31 then 1 else if h : a.1 < 28 ∧ p.1 < 28 then img n ⟨a.1, h.1⟩ ⟨p.1, h.2⟩ else 0

/-- What the first convolution's table holds: the weights, banded over the places, and the bias in row 31. -/
def IsBand1 (T : Vec Ideal S96x832 .bf16) (W : Fin 32 → Fin 3 → Fin 3 → EReal) (B : Fin 32 → EReal) : Prop :=
  ∀ (r : Fin 96) (k : Fin 832), T (ix2 r k)
    = (∑ e : Fin 3, W ⟨k.1 % 32, by omega⟩ ⟨r.1 / 32, by omega⟩ e * (if r.1 % 32 = k.1 / 32 + e.1 then 1 else 0))
      + (if r.1 / 32 = 0 ∧ r.1 % 32 = 31 then 1 else 0) * B ⟨k.1 % 32, by omega⟩

variable {X : Vec Ideal S40x256x32 .bf16} {img : Fin 256 → Fin 28 → Fin 28 → EReal} {T : Vec Ideal S96x832 .bf16} {P : Cert.Net.Params}

/-- One tap row of the first convolution: the three taps, and the bias where the tap row is the first. -/
theorem tapRow (hX : IsPadded X img) (hT : IsBand1 T P.w1 P.b1) (a : Fin 26) (n : Fin 256) (j : Fin 26) (c : Fin 32) (d : Fin 3) :
    ∑ p : Fin 32, X (ix3 ⟨a.1 + d.1, by omega⟩ n p) * T (ix2 ⟨d.1 * 32 + p.1, by omega⟩ ⟨j.1 * 32 + c.1, by omega⟩)
      = (∑ e : Fin 3, P.w1 c d e * img n ⟨a.1 + d.1, by omega⟩ ⟨j.1 + e.1, by omega⟩) + (if d.1 = 0 then P.b1 c else 0) := by
  have h31 : X (ix3 ⟨a.1 + d.1, by omega⟩ n 31) = 1 := (hX _ n 31).trans (if_pos rfl)
  refine Eq.trans (Finset.sum_congr rfl fun p _ => Ideal.mul_congr rfl ?_)
    ((Cert.Net.sum_band_bias (fun p => X (ix3 ⟨a.1 + d.1, by omega⟩ n p)) (P.w1 c d) j.1 j.2 h31
      (if d.1 = 0 then P.b1 c else 0) (if d.1 = 0 then P.b1 c else 0) rfl).trans
      (congrArg (· + (if d.1 = 0 then P.b1 c else 0)) (Finset.sum_congr rfl fun e _ => Ideal.mul_congr rfl ?_)))
  · rw [hT]
    have f1 : (d.1 * 32 + p.1) / 32 = d.1 := by omega
    have f2 : (d.1 * 32 + p.1) % 32 = p.1 := by omega
    have f3 : (j.1 * 32 + c.1) / 32 = j.1 := by omega
    have f4 : (j.1 * 32 + c.1) % 32 = c.1 := by omega
    simp only [f1, f2, f3, f4, Fin.eta]
    congr 1
    by_cases hd : d.1 = 0 <;> by_cases hp : p.1 = 31 <;> simp [hd, hp]
  · refine (hX _ n _).trans ?_
    rw [if_neg (by show ¬ j.1 + e.1 = 31; omega), dif_pos (by constructor <;> simp only [] <;> omega)]

/-- The first hidden array of the block. -/
theorem hidden_at (hX : IsPadded X img) (hT : IsBand1 T P.w1 P.b1) :
    IsHidden (k0_pay2 X T) fun n => Cert.Net.conv1 (img n) P.w1 P.b1 := by
  intro a n j c
  refine (pay2_rows X T ⟨a.1, by omega⟩ n ⟨j.1 * 32 + c.1, by omega⟩).trans ?_
  simp only [tapRow hX hT a n j c]
  rw [Finset.sum_add_distrib, Cert.Net.conv1]
  refine congrArg (fun s => max (_ + s) 0) ?_
  rw [Fin.sum_univ_three]
  simp

variable {x2 : Vec Ideal S576x256 .bf16} {x3 : Vec Ideal S1x256 .f32}

/-- The table cast to its own shape is the table. -/
theorem table2_apply (x2 : Vec Ideal S576x256 .bf16) (r : Fin 576) (k : Fin 256) : table2 x2 (ix2 r k) = x2 (ix2 r k) := by
  pointwise [table2]

/-- The flat array of the block: pooled row `t`, pooled column `j`, channel `o`. -/
theorem flat_at {v : FVec Ideal S8192x832 .bf16} {H : Fin 256 → Fin 32 → Fin 26 → Fin 26 → EReal}
    {W : Fin 64 → Fin 32 → Fin 3 → Fin 3 → EReal} {B : Fin 64 → EReal}
    (hv : IsHidden v H) (hT : IsBand2 x2 W) (hb : ∀ k : Fin 256, x3 (ix2 0 k) = B ⟨k.1 % 64, by omega⟩)
    (t : Fin 12) (n : Fin 256) (j : Fin 12) (o : Fin 64) :
    flat v x2 x3 (ix2 ⟨256 * t.1 + n.1, by omega⟩ ⟨j.1 * 64 + o.1, by omega⟩)
      = Cert.Net.pool (Cert.Net.conv2 (H n) W B) o t j := by
  have hT' : IsBand2 (table2 x2) W := fun r k => (table2_apply x2 r k).trans (hT r k)
  have hg : ∀ (g : Fin 6) (s : Fin 2), groups v x2 x3 g (ix3 t n ⟨s.1 * 64 + o.1, by omega⟩)
      = Cert.Net.pool (Cert.Net.conv2 (H n) W B) o t ⟨2 * g.1 + s.1, by omega⟩ := by
    intro g s
    match g with
    | ⟨0, h⟩ => exact group_at hv hT' hb ⟨0, h⟩ 0 rfl _ _ _ t n s o
    | ⟨1, h⟩ => exact group_at hv hT' hb ⟨1, h⟩ 128 rfl _ _ _ t n s o
    | ⟨2, h⟩ => exact group_at hv hT' hb ⟨2, h⟩ 256 rfl _ _ _ t n s o
    | ⟨3, h⟩ => exact group_at hv hT' hb ⟨3, h⟩ 384 rfl _ _ _ t n s o
    | ⟨4, h⟩ => exact group_at hv hT' hb ⟨4, h⟩ 512 rfl _ _ _ t n s o
    | ⟨5, h⟩ => exact group_at hv hT' hb ⟨5, h⟩ 640 rfl _ _ _ t n s o
  have hl : j.1 * 64 + o.1 = j.1 / 2 * 128 + (j.1 % 2 * 64 + o.1) := by omega
  have hj : 2 * (j.1 / 2) + j.1 % 2 = j.1 := by omega
  have r := (rows6_at (groups v x2 x3) t n ⟨j.1 / 2, by omega⟩ ⟨j.1 % 2 * 64 + o.1, by omega⟩).trans (hg ⟨j.1 / 2, by omega⟩ ⟨j.1 % 2, by omega⟩)
  simp only [← hl, hj, Fin.eta] at r
  exact r

/-- The block's result. -/
theorem block_at {x4 : Vec Ideal S12x768x128 .bf16} {x5 : Vec Ideal S1x128 .f32} {x6 : Vec Ideal S128x128 .bf16} {x7 : Vec Ideal S1x128 .f32}
    (hX : IsPadded X img) (hT1 : IsBand1 T P.w1 P.b1) (hT2 : IsBand2 x2 P.w2) (hb2 : ∀ k : Fin 256, x3 (ix2 0 k) = P.b2 ⟨k.1 % 64, by omega⟩)
    (h4 : ∀ (t : Fin 12) (r : Fin 768) (k : Fin 128), x4 (ix3 t r k) = P.w3 k ⟨r.1 % 64 * 144 + t.1 * 12 + r.1 / 64, by omega⟩)
    (h5 : ∀ k : Fin 128, x5 (ix2 0 k) = P.b3 k)
    (h6 : ∀ (r : Fin 128) (l : Fin 10), x6 (ix2 r ⟨l.1, by omega⟩) = P.w4 l r)
    (h7 : ∀ l : Fin 10, x7 (ix2 0 ⟨l.1, by omega⟩) = P.b4 l)
    (n : Fin 256) (l : Fin 10) :
    out0_8 X T x2 x3 x4 x5 x6 x7 (ix2 n l) = Cert.Net.net P (img n) l := by
  rw [out_eq, tailLayers_apply, h7, Cert.Net.net, Cert.Net.dense2]
  refine congrArg (· + P.b4 l) (Finset.sum_congr rfl fun k _ => ?_)
  rw [h6, h5, Cert.Net.dense1, sum12_apply]
  refine congrArg (fun s => max (s + P.b3 k) 0 * P.w4 l k) ?_
  have hflat := flat_at (hidden_at hX hT1) hT2 hb2
  have e : ∀ t : Fin 12, ∑ x : Fin 768, flat (k0_pay2 X T) x2 x3 (ix2 ⟨256 * t.1 + n.1, by omega⟩ x) * slicesOf x4 t (ix3 0 x k)
      = ∑ o : Fin 64, ∑ j : Fin 12, Cert.Net.pool (Cert.Net.feat P (img n)) o t j * P.w3 k ⟨o.1 * 144 + t.1 * 12 + j.1, by omega⟩ := by
    intro t
    rw [Cert.Net.sum_rows 12 64 768 rfl, Finset.sum_comm]
    refine Finset.sum_congr rfl fun o _ => Finset.sum_congr rfl fun j _ => ?_
    rw [hflat t n j o, slicesOf_at, h4]
    have f1 : (j.1 * 64 + o.1) % 64 = o.1 := by omega
    have f2 : (j.1 * 64 + o.1) / 64 = j.1 := by omega
    simp only [f1, f2]
    rfl
  rw [Finset.sum_congr rfl fun t _ => e t, Finset.sum_comm]

end Cert.KernelIdeal.Block

end
-- ==== Proof.ArrayValue.lean ====
module

public import proofs.«01_k».proof.Proof.HostArrays
public import proofs.«01_k».proof.Proof.BlockNet
public import Idealize.ShloMosaic.Lib.Pipeline.ValueKit.Point

@[expose] public section

set_option maxRecDepth 16384

/-!
  What the kernel's array holds: each grid point's blocks are read off the prepared arrays, so that row `N` of the result
  array ends at the network's scores of image `N`.
-/

noncomputable section

namespace Cert.KernelIdeal.Host

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The network's parameters, as the arguments hold them. -/
def params : Cert.Net.Params where
  w1 o d e := weights1 m c (ix4 o 0 d e)
  b1 o := bias1 m c (ix1 o)
  w2 o i d e := weights2 m c (ix4 o i d e)
  b2 o := bias2 m c (ix1 o)
  w3 k r := weights3 m c (ix2 k r)
  b3 k := bias3 m c (ix1 k)
  w4 l k := weights4 m c (ix2 l k)
  b4 l := bias4 m c (ix1 l)

/-- Image `n`. -/
def image (n : Fin 4096) (p q : Fin 28) : EReal := images m c (ix4 n 0 p q)

/-- The result array: the scores of every image. -/
def scores : FVec Ideal S4096x10 .f32 := fun i => Cert.Net.net (params m c) (image m c (i 0)) (i 1)

/-- The blocks' places: the images' and the result's block moves with the point, the tables' are whole. -/
theorem idx : ∀ t : Fin cfg0.N, win0_0.index t = ![0, t.val, 0] ∧ win0_1.index t = ![0, 0] ∧ win0_2.index t = ![0, 0]
    ∧ win0_3.index t = ![0, 0] ∧ win0_4.index t = ![0, 0, 0] ∧ win0_5.index t = ![0, 0] ∧ win0_6.index t = ![0, 0]
    ∧ win0_7.index t = ![0, 0] ∧ win0_8.index t = ![t.val, 0] := by
  decide +kernel

theorem lt_points (t : Fin cfg0.N) : t.val < 16 := t.isLt

theorem blk0 (t : Fin cfg0.N) (a : Fin 40) (n : Fin 256) (p : Fin 32) :
    iblk m c 0 t (ix3 a n p) = V m c main_v39 (ix3 a ⟨t.val * 256 + n.1, by have := lt_points t; omega⟩ p) := by
  blk_simp [iblk]
  refine congrArg _ (funext fun b => Fin.ext ?_)
  match b with
  | ⟨0, _⟩ =>
    blk_simp [idx t]
  | ⟨1, _⟩ =>
    blk_simp [idx t]
  | ⟨2, _⟩ =>
    blk_simp [idx t]
theorem blk1 (t : Fin cfg0.N) (r : Fin 96) (k : Fin 832) : iblk m c 1 t (ix2 r k) = V m c main_v28 (ix2 r k) := by
  blk_ext [iblk, idx t]
theorem blk2 (t : Fin cfg0.N) (r : Fin 576) (k : Fin 256) : iblk m c 2 t (ix2 r k) = V m c main_v29 (ix2 r k) := by
  blk_ext [iblk, idx t]
theorem blk3 (t : Fin cfg0.N) (k : Fin 256) : iblk m c 3 t (ix2 0 k) = V m c main_v15 (ix2 0 k) := by
  blk_ext [iblk, idx t]
theorem blk4 (t : Fin cfg0.N) (s : Fin 12) (r : Fin 768) (k : Fin 128) : iblk m c 4 t (ix3 s r k) = V m c main_v30 (ix3 s r k) := by
  blk_ext [iblk, idx t]
theorem blk5 (t : Fin cfg0.N) (k : Fin 128) : iblk m c 5 t (ix2 0 k) = V m c main_v31 (ix2 0 k) := by
  blk_ext [iblk, idx t]
theorem blk6 (t : Fin cfg0.N) (r : Fin 128) (k : Fin 128) : iblk m c 6 t (ix2 r k) = V m c main_v32 (ix2 r k) := by
  blk_ext [iblk, idx t]
theorem blk7 (t : Fin cfg0.N) (k : Fin 128) : iblk m c 7 t (ix2 0 k) = V m c main_v27 (ix2 0 k) := by
  blk_ext [iblk, idx t]

/-- What point `t` leaves in its block of the result. -/
theorem out_at (t : Fin cfg0.N) (n : Fin 256) (l : Fin 10) :
    out0_8 (iblk m c 0 t) (iblk m c 1 t) (iblk m c 2 t) (iblk m c 3 t) (iblk m c 4 t) (iblk m c 5 t) (iblk m c 6 t) (iblk m c 7 t) (ix2 n l)
      = Cert.Net.net (params m c) (image m c ⟨t.val * 256 + n.1, by have := lt_points t; omega⟩) l :=
  Block.block_at (P := params m c) (img := fun n => image m c ⟨t.val * 256 + n.1, by have := lt_points t; omega⟩)
    (fun a n p => (blk0 m c t a n p).trans (xp_at m c a _ p))
    (fun r k => (blk1 m c t r k).trans (t1_at m c r k))
    (fun r k => (blk2 m c t r k).trans (t2_at m c r k))
    (fun k => (blk3 m c t k).trans (b2_at m c k))
    (fun s r k => (blk4 m c t s r k).trans (fw1_at m c s r k))
    (fun k => (blk5 m c t k).trans (fb1_at m c k))
    (fun r l => (blk6 m c t r _).trans (fw2_at m c r l))
    (fun l => (blk7 m c t _).trans (fb2_at m c l)) n l

theorem row_lt (t : Fin cfg0.N) (n : Fin 256) : t.val * 256 + n.1 < 4096 := by
  have := lt_points t
  omega

/-- Where point `t`'s block of the result lies. -/
theorem place (t : Fin cfg0.N) (n : Fin 256) (l : Fin 10) :
    ((cfg0.win 8).blk t).view.emb (ix2 n l : S256x10.Idx) = (ix2 (⟨t.val * 256 + n.1, row_lt t n⟩ : Fin 4096) l : S4096x10.Idx) := by
  funext b
  apply Fin.ext
  match b with
  | ⟨0, _⟩ =>
    blk_simp [idx t]
  | ⟨1, _⟩ =>
    blk_simp [idx t]

/-- The result array after the run. -/
theorem array_eq : (dats m 0 c).arrAt 8 cfg0.N = scores m c := by
  refine (dats m 0 c).arrAt_eq_of_covers 8 _ (by decide +kernel) fun t hf y => ?_
  obtain ⟨n, l, rfl⟩ : ∃ (n : Fin 256) (l : Fin 10), y = (ix2 n l : S256x10.Idx) :=
    ⟨y 0, y 1, funext fun a => by match a with | ⟨0, _⟩ => rfl | ⟨1, _⟩ => rfl⟩
  rw [after0_8]
  exact (out_at m c t n l).trans (congrArg (scores m c) (place t n l)).symm

end Cert.KernelIdeal.Host

end
-- ==== Proof.RefOps.lean ====
module

public import proofs.«01_k».proof.Proof.Gen.ReferenceIdeal
public import Idealize.ShloMosaic.Lib.StableHlo.Run

@[expose] public section

/-!
  The reference's @main as THREE lists of host operations, one per layer of the network, and its run: every execution
  ends with each buffer holding what the three lists leave one after the other. The cut keeps every read small: what a
  layer computes is stated over the one array that the layer before it leaves.
-/

noncomputable section

namespace Cert.ReferenceIdeal.Layers

open Cert.ReferenceIdeal Cert.ReferenceIdeal.Gen Idealize.ShloMosaic Idealize.ShloMosaic.TcCoe Idealize.SL.Sem Idealize.ShloMosaic.StableHlo

variable {F : FTy → Type} [FloatOps F]

/-- The first convolution with its bias and `max · 0`: `main_v56`. -/
abbrev opsA : List (HloOp τ sig (Elt F)) :=
  [ unary main_arg0 main_v0 ((extractStridedSlice S4096x1x26x26 ![0, 0, 0, 0] · slices_S4096x1x28x28_S4096x1x26x26_0_0_0_0) : (⟨S4096x1x28x28, .f32⟩ : BufTy).Contents (Elt F) → (⟨S4096x1x26x26, .f32⟩ : BufTy).Contents (Elt F)),
    unary main_arg1 main_v1 ((extractStridedSlice S32x1x1x1 ![0, 0, 0, 0] · slices_S32x1x3x3_S32x1x1x1_0_0_0_0) : (⟨S32x1x3x3, .f32⟩ : BufTy).Contents (Elt F) → (⟨S32x1x1x1, .f32⟩ : BufTy).Contents (Elt F)),
    reshape main_v1 main_v2 (rfl : (.f32 : EltTy) = .f32) shapeCasts_S32x1x1x1_S32x1,
    binary main_v2 main_v0 main_v3 ((fun l r => Host.dotGeneral dot_S32x1_S4096x1x26x26_S32x4096x26x26_1_1_0_023_n_n none l r) : (⟨S32x1, .f32⟩ : BufTy).Contents (Elt F) → (⟨S4096x1x26x26, .f32⟩ : BufTy).Contents (Elt F) → (⟨S32x4096x26x26, .f32⟩ : BufTy).Contents (Elt F)),
    unary main_v3 main_v4 ((transpose S4096x32x26x26 [1, 0, 2, 3] · transposes_S32x4096x26x26_S4096x32x26x26_1_0_2_3) : (⟨S32x4096x26x26, .f32⟩ : BufTy).Contents (Elt F) → (⟨S4096x32x26x26, .f32⟩ : BufTy).Contents (Elt F)),
    unary main_arg0 main_v5 ((extractStridedSlice S4096x1x26x26 ![0, 0, 0, 1] · slices_S4096x1x28x28_S4096x1x26x26_0_0_0_1) : (⟨S4096x1x28x28, .f32⟩ : BufTy).Contents (Elt F) → (⟨S4096x1x26x26, .f32⟩ : BufTy).Contents (Elt F)),
    unary main_arg1 main_v6 ((extractStridedSlice S32x1x1x1 ![0, 0, 0, 1] · slices_S32x1x3x3_S32x1x1x1_0_0_0_1) : (⟨S32x1x3x3, .f32⟩ : BufTy).Contents (Elt F) → (⟨S32x1x1x1, .f32⟩ : BufTy).Contents (Elt F)),
    reshape main_v6 main_v7 (rfl : (.f32 : EltTy) = .f32) shapeCasts_S32x1x1x1_S32x1,
    binary main_v7 main_v5 main_v8 ((fun l r => Host.dotGeneral dot_S32x1_S4096x1x26x26_S32x4096x26x26_1_1_0_023_n_n none l r) : (⟨S32x1, .f32⟩ : BufTy).Contents (Elt F) → (⟨S4096x1x26x26, .f32⟩ : BufTy).Contents (Elt F) → (⟨S32x4096x26x26, .f32⟩ : BufTy).Contents (Elt F)),
    unary main_v8 main_v9 ((transpose S4096x32x26x26 [1, 0, 2, 3] · transposes_S32x4096x26x26_S4096x32x26x26_1_0_2_3) : (⟨S32x4096x26x26, .f32⟩ : BufTy).Contents (Elt F) → (⟨S4096x32x26x26, .f32⟩ : BufTy).Contents (Elt F)),
    binary main_v4 main_v9 main_v10 (addf : (⟨S4096x32x26x26, .f32⟩ : BufTy).Contents (Elt F) → (⟨S4096x32x26x26, .f32⟩ : BufTy).Contents (Elt F) → (⟨S4096x32x26x26, .f32⟩ : BufTy).Contents (Elt F)),
    unary main_arg0 main_v11 ((extractStridedSlice S4096x1x26x26 ![0, 0, 0, 2] · slices_S4096x1x28x28_S4096x1x26x26_0_0_0_2) : (⟨S4096x1x28x28, .f32⟩ : BufTy).Contents (Elt F) → (⟨S4096x1x26x26, .f32⟩ : BufTy).Contents (Elt F)),
    unary main_arg1 main_v12 ((extractStridedSlice S32x1x1x1 ![0, 0, 0, 2] · slices_S32x1x3x3_S32x1x1x1_0_0_0_2) : (⟨S32x1x3x3, .f32⟩ : BufTy).Contents (Elt F) → (⟨S32x1x1x1, .f32⟩ : BufTy).Contents (Elt F)),
    reshape main_v12 main_v13 (rfl : (.f32 : EltTy) = .f32) shapeCasts_S32x1x1x1_S32x1,
    binary main_v13 main_v11 main_v14 ((fun l r => Host.dotGeneral dot_S32x1_S4096x1x26x26_S32x4096x26x26_1_1_0_023_n_n none l r) : (⟨S32x1, .f32⟩ : BufTy).Contents (Elt F) → (⟨S4096x1x26x26, .f32⟩ : BufTy).Contents (Elt F) → (⟨S32x4096x26x26, .f32⟩ : BufTy).Contents (Elt F)),
    unary main_v14 main_v15 ((transpose S4096x32x26x26 [1, 0, 2, 3] · transposes_S32x4096x26x26_S4096x32x26x26_1_0_2_3) : (⟨S32x4096x26x26, .f32⟩ : BufTy).Contents (Elt F) → (⟨S4096x32x26x26, .f32⟩ : BufTy).Contents (Elt F)),
    binary main_v10 main_v15 main_v16 (addf : (⟨S4096x32x26x26, .f32⟩ : BufTy).Contents (Elt F) → (⟨S4096x32x26x26, .f32⟩ : BufTy).Contents (Elt F) → (⟨S4096x32x26x26, .f32⟩ : BufTy).Contents (Elt F)),
    unary main_arg0 main_v17 ((extractStridedSlice S4096x1x26x26 ![0, 0, 1, 0] · slices_S4096x1x28x28_S4096x1x26x26_0_0_1_0) : (⟨S4096x1x28x28, .f32⟩ : BufTy).Contents (Elt F) → (⟨S4096x1x26x26, .f32⟩ : BufTy).Contents (Elt F)),
    unary main_arg1 main_v18 ((extractStridedSlice S32x1x1x1 ![0, 0, 1, 0] · slices_S32x1x3x3_S32x1x1x1_0_0_1_0) : (⟨S32x1x3x3, .f32⟩ : BufTy).Contents (Elt F) → (⟨S32x1x1x1, .f32⟩ : BufTy).Contents (Elt F)),
    reshape main_v18 main_v19 (rfl : (.f32 : EltTy) = .f32) shapeCasts_S32x1x1x1_S32x1,
    binary main_v19 main_v17 main_v20 ((fun l r => Host.dotGeneral dot_S32x1_S4096x1x26x26_S32x4096x26x26_1_1_0_023_n_n none l r) : (⟨S32x1, .f32⟩ : BufTy).Contents (Elt F) → (⟨S4096x1x26x26, .f32⟩ : BufTy).Contents (Elt F) → (⟨S32x4096x26x26, .f32⟩ : BufTy).Contents (Elt F)),
    unary main_v20 main_v21 ((transpose S4096x32x26x26 [1, 0, 2, 3] · transposes_S32x4096x26x26_S4096x32x26x26_1_0_2_3) : (⟨S32x4096x26x26, .f32⟩ : BufTy).Contents (Elt F) → (⟨S4096x32x26x26, .f32⟩ : BufTy).Contents (Elt F)),
    binary main_v16 main_v21 main_v22 (addf : (⟨S4096x32x26x26, .f32⟩ : BufTy).Contents (Elt F) → (⟨S4096x32x26x26, .f32⟩ : BufTy).Contents (Elt F) → (⟨S4096x32x26x26, .f32⟩ : BufTy).Contents (Elt F)),
    unary main_arg0 main_v23 ((extractStridedSlice S4096x1x26x26 ![0, 0, 1, 1] · slices_S4096x1x28x28_S4096x1x26x26_0_0_1_1) : (⟨S4096x1x28x28, .f32⟩ : BufTy).Contents (Elt F) → (⟨S4096x1x26x26, .f32⟩ : BufTy).Contents (Elt F)),
    unary main_arg1 main_v24 ((extractStridedSlice S32x1x1x1 ![0, 0, 1, 1] · slices_S32x1x3x3_S32x1x1x1_0_0_1_1) : (⟨S32x1x3x3, .f32⟩ : BufTy).Contents (Elt F) → (⟨S32x1x1x1, .f32⟩ : BufTy).Contents (Elt F)),
    reshape main_v24 main_v25 (rfl : (.f32 : EltTy) = .f32) shapeCasts_S32x1x1x1_S32x1,
    binary main_v25 main_v23 main_v26 ((fun l r => Host.dotGeneral dot_S32x1_S4096x1x26x26_S32x4096x26x26_1_1_0_023_n_n none l r) : (⟨S32x1, .f32⟩ : BufTy).Contents (Elt F) → (⟨S4096x1x26x26, .f32⟩ : BufTy).Contents (Elt F) → (⟨S32x4096x26x26, .f32⟩ : BufTy).Contents (Elt F)),
    unary main_v26 main_v27 ((transpose S4096x32x26x26 [1, 0, 2, 3] · transposes_S32x4096x26x26_S4096x32x26x26_1_0_2_3) : (⟨S32x4096x26x26, .f32⟩ : BufTy).Contents (Elt F) → (⟨S4096x32x26x26, .f32⟩ : BufTy).Contents (Elt F)),
    binary main_v22 main_v27 main_v28 (addf : (⟨S4096x32x26x26, .f32⟩ : BufTy).Contents (Elt F) → (⟨S4096x32x26x26, .f32⟩ : BufTy).Contents (Elt F) → (⟨S4096x32x26x26, .f32⟩ : BufTy).Contents (Elt F)),
    unary main_arg0 main_v29 ((extractStridedSlice S4096x1x26x26 ![0, 0, 1, 2] · slices_S4096x1x28x28_S4096x1x26x26_0_0_1_2) : (⟨S4096x1x28x28, .f32⟩ : BufTy).Contents (Elt F) → (⟨S4096x1x26x26, .f32⟩ : BufTy).Contents (Elt F)),
    unary main_arg1 main_v30 ((extractStridedSlice S32x1x1x1 ![0, 0, 1, 2] · slices_S32x1x3x3_S32x1x1x1_0_0_1_2) : (⟨S32x1x3x3, .f32⟩ : BufTy).Contents (Elt F) → (⟨S32x1x1x1, .f32⟩ : BufTy).Contents (Elt F)),
    reshape main_v30 main_v31 (rfl : (.f32 : EltTy) = .f32) shapeCasts_S32x1x1x1_S32x1,
    binary main_v31 main_v29 main_v32 ((fun l r => Host.dotGeneral dot_S32x1_S4096x1x26x26_S32x4096x26x26_1_1_0_023_n_n none l r) : (⟨S32x1, .f32⟩ : BufTy).Contents (Elt F) → (⟨S4096x1x26x26, .f32⟩ : BufTy).Contents (Elt F) → (⟨S32x4096x26x26, .f32⟩ : BufTy).Contents (Elt F)),
    unary main_v32 main_v33 ((transpose S4096x32x26x26 [1, 0, 2, 3] · transposes_S32x4096x26x26_S4096x32x26x26_1_0_2_3) : (⟨S32x4096x26x26, .f32⟩ : BufTy).Contents (Elt F) → (⟨S4096x32x26x26, .f32⟩ : BufTy).Contents (Elt F)),
    binary main_v28 main_v33 main_v34 (addf : (⟨S4096x32x26x26, .f32⟩ : BufTy).Contents (Elt F) → (⟨S4096x32x26x26, .f32⟩ : BufTy).Contents (Elt F) → (⟨S4096x32x26x26, .f32⟩ : BufTy).Contents (Elt F)),
    unary main_arg0 main_v35 ((extractStridedSlice S4096x1x26x26 ![0, 0, 2, 0] · slices_S4096x1x28x28_S4096x1x26x26_0_0_2_0) : (⟨S4096x1x28x28, .f32⟩ : BufTy).Contents (Elt F) → (⟨S4096x1x26x26, .f32⟩ : BufTy).Contents (Elt F)),
    unary main_arg1 main_v36 ((extractStridedSlice S32x1x1x1 ![0, 0, 2, 0] · slices_S32x1x3x3_S32x1x1x1_0_0_2_0) : (⟨S32x1x3x3, .f32⟩ : BufTy).Contents (Elt F) → (⟨S32x1x1x1, .f32⟩ : BufTy).Contents (Elt F)),
    reshape main_v36 main_v37 (rfl : (.f32 : EltTy) = .f32) shapeCasts_S32x1x1x1_S32x1,
    binary main_v37 main_v35 main_v38 ((fun l r => Host.dotGeneral dot_S32x1_S4096x1x26x26_S32x4096x26x26_1_1_0_023_n_n none l r) : (⟨S32x1, .f32⟩ : BufTy).Contents (Elt F) → (⟨S4096x1x26x26, .f32⟩ : BufTy).Contents (Elt F) → (⟨S32x4096x26x26, .f32⟩ : BufTy).Contents (Elt F)),
    unary main_v38 main_v39 ((transpose S4096x32x26x26 [1, 0, 2, 3] · transposes_S32x4096x26x26_S4096x32x26x26_1_0_2_3) : (⟨S32x4096x26x26, .f32⟩ : BufTy).Contents (Elt F) → (⟨S4096x32x26x26, .f32⟩ : BufTy).Contents (Elt F)),
    binary main_v34 main_v39 main_v40 (addf : (⟨S4096x32x26x26, .f32⟩ : BufTy).Contents (Elt F) → (⟨S4096x32x26x26, .f32⟩ : BufTy).Contents (Elt F) → (⟨S4096x32x26x26, .f32⟩ : BufTy).Contents (Elt F)),
    unary main_arg0 main_v41 ((extractStridedSlice S4096x1x26x26 ![0, 0, 2, 1] · slices_S4096x1x28x28_S4096x1x26x26_0_0_2_1) : (⟨S4096x1x28x28, .f32⟩ : BufTy).Contents (Elt F) → (⟨S4096x1x26x26, .f32⟩ : BufTy).Contents (Elt F)),
    unary main_arg1 main_v42 ((extractStridedSlice S32x1x1x1 ![0, 0, 2, 1] · slices_S32x1x3x3_S32x1x1x1_0_0_2_1) : (⟨S32x1x3x3, .f32⟩ : BufTy).Contents (Elt F) → (⟨S32x1x1x1, .f32⟩ : BufTy).Contents (Elt F)),
    reshape main_v42 main_v43 (rfl : (.f32 : EltTy) = .f32) shapeCasts_S32x1x1x1_S32x1,
    binary main_v43 main_v41 main_v44 ((fun l r => Host.dotGeneral dot_S32x1_S4096x1x26x26_S32x4096x26x26_1_1_0_023_n_n none l r) : (⟨S32x1, .f32⟩ : BufTy).Contents (Elt F) → (⟨S4096x1x26x26, .f32⟩ : BufTy).Contents (Elt F) → (⟨S32x4096x26x26, .f32⟩ : BufTy).Contents (Elt F)),
    unary main_v44 main_v45 ((transpose S4096x32x26x26 [1, 0, 2, 3] · transposes_S32x4096x26x26_S4096x32x26x26_1_0_2_3) : (⟨S32x4096x26x26, .f32⟩ : BufTy).Contents (Elt F) → (⟨S4096x32x26x26, .f32⟩ : BufTy).Contents (Elt F)),
    binary main_v40 main_v45 main_v46 (addf : (⟨S4096x32x26x26, .f32⟩ : BufTy).Contents (Elt F) → (⟨S4096x32x26x26, .f32⟩ : BufTy).Contents (Elt F) → (⟨S4096x32x26x26, .f32⟩ : BufTy).Contents (Elt F)),
    unary main_arg0 main_v47 ((extractStridedSlice S4096x1x26x26 ![0, 0, 2, 2] · slices_S4096x1x28x28_S4096x1x26x26_0_0_2_2) : (⟨S4096x1x28x28, .f32⟩ : BufTy).Contents (Elt F) → (⟨S4096x1x26x26, .f32⟩ : BufTy).Contents (Elt F)),
    unary main_arg1 main_v48 ((extractStridedSlice S32x1x1x1 ![0, 0, 2, 2] · slices_S32x1x3x3_S32x1x1x1_0_0_2_2) : (⟨S32x1x3x3, .f32⟩ : BufTy).Contents (Elt F) → (⟨S32x1x1x1, .f32⟩ : BufTy).Contents (Elt F)),
    reshape main_v48 main_v49 (rfl : (.f32 : EltTy) = .f32) shapeCasts_S32x1x1x1_S32x1,
    binary main_v49 main_v47 main_v50 ((fun l r => Host.dotGeneral dot_S32x1_S4096x1x26x26_S32x4096x26x26_1_1_0_023_n_n none l r) : (⟨S32x1, .f32⟩ : BufTy).Contents (Elt F) → (⟨S4096x1x26x26, .f32⟩ : BufTy).Contents (Elt F) → (⟨S32x4096x26x26, .f32⟩ : BufTy).Contents (Elt F)),
    unary main_v50 main_v51 ((transpose S4096x32x26x26 [1, 0, 2, 3] · transposes_S32x4096x26x26_S4096x32x26x26_1_0_2_3) : (⟨S32x4096x26x26, .f32⟩ : BufTy).Contents (Elt F) → (⟨S4096x32x26x26, .f32⟩ : BufTy).Contents (Elt F)),
    binary main_v46 main_v51 main_v52 (addf : (⟨S4096x32x26x26, .f32⟩ : BufTy).Contents (Elt F) → (⟨S4096x32x26x26, .f32⟩ : BufTy).Contents (Elt F) → (⟨S4096x32x26x26, .f32⟩ : BufTy).Contents (Elt F)),
    unary main_arg2 main_v53 (broadcastInDim S1x32x1x1 ![1] bcast_S32_S1x32x1x1_1 : (⟨S32, .f32⟩ : BufTy).Contents (Elt F) → (⟨S1x32x1x1, .f32⟩ : BufTy).Contents (Elt F)),
    unary main_v53 main_v54 (broadcastInDim S4096x32x26x26 ![0, 1, 2, 3] bcast_S1x32x1x1_S4096x32x26x26_0_1_2_3 : (⟨S1x32x1x1, .f32⟩ : BufTy).Contents (Elt F) → (⟨S4096x32x26x26, .f32⟩ : BufTy).Contents (Elt F)),
    binary main_v52 main_v54 main_v55 (addf : (⟨S4096x32x26x26, .f32⟩ : BufTy).Contents (Elt F) → (⟨S4096x32x26x26, .f32⟩ : BufTy).Contents (Elt F) → (⟨S4096x32x26x26, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S4096x32x26x26, .f32⟩) main_call0_v0) (broadcastInDim S4096x32x26x26 ![] bcast_S_S4096x32x26x26),
    TRef.binary (TRef.of (T := ⟨S4096x32x26x26, .f32⟩) main_v55) (TRef.of (T := ⟨S4096x32x26x26, .f32⟩) main_call0_v0) (TRef.of (T := ⟨S4096x32x26x26, .f32⟩) main_v56) maximumf ]

/-- The second convolution with its bias and `max · 0`: `main_v113`. -/
abbrev opsB : List (HloOp τ sig (Elt F)) :=
  [ unary main_v56 main_v57 ((extractStridedSlice S4096x32x24x24 ![0, 0, 0, 0] · slices_S4096x32x26x26_S4096x32x24x24_0_0_0_0) : (⟨S4096x32x26x26, .f32⟩ : BufTy).Contents (Elt F) → (⟨S4096x32x24x24, .f32⟩ : BufTy).Contents (Elt F)),
    unary main_arg3 main_v58 ((extractStridedSlice S64x32x1x1 ![0, 0, 0, 0] · slices_S64x32x3x3_S64x32x1x1_0_0_0_0) : (⟨S64x32x3x3, .f32⟩ : BufTy).Contents (Elt F) → (⟨S64x32x1x1, .f32⟩ : BufTy).Contents (Elt F)),
    reshape main_v58 main_v59 (rfl : (.f32 : EltTy) = .f32) shapeCasts_S64x32x1x1_S64x32,
    binary main_v59 main_v57 main_v60 ((fun l r => Host.dotGeneral dot_S64x32_S4096x32x24x24_S64x4096x24x24_1_1_0_023_n_n none l r) : (⟨S64x32, .f32⟩ : BufTy).Contents (Elt F) → (⟨S4096x32x24x24, .f32⟩ : BufTy).Contents (Elt F) → (⟨S64x4096x24x24, .f32⟩ : BufTy).Contents (Elt F)),
    unary main_v60 main_v61 ((transpose S4096x64x24x24 [1, 0, 2, 3] · transposes_S64x4096x24x24_S4096x64x24x24_1_0_2_3) : (⟨S64x4096x24x24, .f32⟩ : BufTy).Contents (Elt F) → (⟨S4096x64x24x24, .f32⟩ : BufTy).Contents (Elt F)),
    unary main_v56 main_v62 ((extractStridedSlice S4096x32x24x24 ![0, 0, 0, 1] · slices_S4096x32x26x26_S4096x32x24x24_0_0_0_1) : (⟨S4096x32x26x26, .f32⟩ : BufTy).Contents (Elt F) → (⟨S4096x32x24x24, .f32⟩ : BufTy).Contents (Elt F)),
    unary main_arg3 main_v63 ((extractStridedSlice S64x32x1x1 ![0, 0, 0, 1] · slices_S64x32x3x3_S64x32x1x1_0_0_0_1) : (⟨S64x32x3x3, .f32⟩ : BufTy).Contents (Elt F) → (⟨S64x32x1x1, .f32⟩ : BufTy).Contents (Elt F)),
    reshape main_v63 main_v64 (rfl : (.f32 : EltTy) = .f32) shapeCasts_S64x32x1x1_S64x32,
    binary main_v64 main_v62 main_v65 ((fun l r => Host.dotGeneral dot_S64x32_S4096x32x24x24_S64x4096x24x24_1_1_0_023_n_n none l r) : (⟨S64x32, .f32⟩ : BufTy).Contents (Elt F) → (⟨S4096x32x24x24, .f32⟩ : BufTy).Contents (Elt F) → (⟨S64x4096x24x24, .f32⟩ : BufTy).Contents (Elt F)),
    unary main_v65 main_v66 ((transpose S4096x64x24x24 [1, 0, 2, 3] · transposes_S64x4096x24x24_S4096x64x24x24_1_0_2_3) : (⟨S64x4096x24x24, .f32⟩ : BufTy).Contents (Elt F) → (⟨S4096x64x24x24, .f32⟩ : BufTy).Contents (Elt F)),
    binary main_v61 main_v66 main_v67 (addf : (⟨S4096x64x24x24, .f32⟩ : BufTy).Contents (Elt F) → (⟨S4096x64x24x24, .f32⟩ : BufTy).Contents (Elt F) → (⟨S4096x64x24x24, .f32⟩ : BufTy).Contents (Elt F)),
    unary main_v56 main_v68 ((extractStridedSlice S4096x32x24x24 ![0, 0, 0, 2] · slices_S4096x32x26x26_S4096x32x24x24_0_0_0_2) : (⟨S4096x32x26x26, .f32⟩ : BufTy).Contents (Elt F) → (⟨S4096x32x24x24, .f32⟩ : BufTy).Contents (Elt F)),
    unary main_arg3 main_v69 ((extractStridedSlice S64x32x1x1 ![0, 0, 0, 2] · slices_S64x32x3x3_S64x32x1x1_0_0_0_2) : (⟨S64x32x3x3, .f32⟩ : BufTy).Contents (Elt F) → (⟨S64x32x1x1, .f32⟩ : BufTy).Contents (Elt F)),
    reshape main_v69 main_v70 (rfl : (.f32 : EltTy) = .f32) shapeCasts_S64x32x1x1_S64x32,
    binary main_v70 main_v68 main_v71 ((fun l r => Host.dotGeneral dot_S64x32_S4096x32x24x24_S64x4096x24x24_1_1_0_023_n_n none l r) : (⟨S64x32, .f32⟩ : BufTy).Contents (Elt F) → (⟨S4096x32x24x24, .f32⟩ : BufTy).Contents (Elt F) → (⟨S64x4096x24x24, .f32⟩ : BufTy).Contents (Elt F)),
    unary main_v71 main_v72 ((transpose S4096x64x24x24 [1, 0, 2, 3] · transposes_S64x4096x24x24_S4096x64x24x24_1_0_2_3) : (⟨S64x4096x24x24, .f32⟩ : BufTy).Contents (Elt F) → (⟨S4096x64x24x24, .f32⟩ : BufTy).Contents (Elt F)),
    binary main_v67 main_v72 main_v73 (addf : (⟨S4096x64x24x24, .f32⟩ : BufTy).Contents (Elt F) → (⟨S4096x64x24x24, .f32⟩ : BufTy).Contents (Elt F) → (⟨S4096x64x24x24, .f32⟩ : BufTy).Contents (Elt F)),
    unary main_v56 main_v74 ((extractStridedSlice S4096x32x24x24 ![0, 0, 1, 0] · slices_S4096x32x26x26_S4096x32x24x24_0_0_1_0) : (⟨S4096x32x26x26, .f32⟩ : BufTy).Contents (Elt F) → (⟨S4096x32x24x24, .f32⟩ : BufTy).Contents (Elt F)),
    unary main_arg3 main_v75 ((extractStridedSlice S64x32x1x1 ![0, 0, 1, 0] · slices_S64x32x3x3_S64x32x1x1_0_0_1_0) : (⟨S64x32x3x3, .f32⟩ : BufTy).Contents (Elt F) → (⟨S64x32x1x1, .f32⟩ : BufTy).Contents (Elt F)),
    reshape main_v75 main_v76 (rfl : (.f32 : EltTy) = .f32) shapeCasts_S64x32x1x1_S64x32,
    binary main_v76 main_v74 main_v77 ((fun l r => Host.dotGeneral dot_S64x32_S4096x32x24x24_S64x4096x24x24_1_1_0_023_n_n none l r) : (⟨S64x32, .f32⟩ : BufTy).Contents (Elt F) → (⟨S4096x32x24x24, .f32⟩ : BufTy).Contents (Elt F) → (⟨S64x4096x24x24, .f32⟩ : BufTy).Contents (Elt F)),
    unary main_v77 main_v78 ((transpose S4096x64x24x24 [1, 0, 2, 3] · transposes_S64x4096x24x24_S4096x64x24x24_1_0_2_3) : (⟨S64x4096x24x24, .f32⟩ : BufTy).Contents (Elt F) → (⟨S4096x64x24x24, .f32⟩ : BufTy).Contents (Elt F)),
    binary main_v73 main_v78 main_v79 (addf : (⟨S4096x64x24x24, .f32⟩ : BufTy).Contents (Elt F) → (⟨S4096x64x24x24, .f32⟩ : BufTy).Contents (Elt F) → (⟨S4096x64x24x24, .f32⟩ : BufTy).Contents (Elt F)),
    unary main_v56 main_v80 ((extractStridedSlice S4096x32x24x24 ![0, 0, 1, 1] · slices_S4096x32x26x26_S4096x32x24x24_0_0_1_1) : (⟨S4096x32x26x26, .f32⟩ : BufTy).Contents (Elt F) → (⟨S4096x32x24x24, .f32⟩ : BufTy).Contents (Elt F)),
    unary main_arg3 main_v81 ((extractStridedSlice S64x32x1x1 ![0, 0, 1, 1] · slices_S64x32x3x3_S64x32x1x1_0_0_1_1) : (⟨S64x32x3x3, .f32⟩ : BufTy).Contents (Elt F) → (⟨S64x32x1x1, .f32⟩ : BufTy).Contents (Elt F)),
    reshape main_v81 main_v82 (rfl : (.f32 : EltTy) = .f32) shapeCasts_S64x32x1x1_S64x32,
    binary main_v82 main_v80 main_v83 ((fun l r => Host.dotGeneral dot_S64x32_S4096x32x24x24_S64x4096x24x24_1_1_0_023_n_n none l r) : (⟨S64x32, .f32⟩ : BufTy).Contents (Elt F) → (⟨S4096x32x24x24, .f32⟩ : BufTy).Contents (Elt F) → (⟨S64x4096x24x24, .f32⟩ : BufTy).Contents (Elt F)),
    unary main_v83 main_v84 ((transpose S4096x64x24x24 [1, 0, 2, 3] · transposes_S64x4096x24x24_S4096x64x24x24_1_0_2_3) : (⟨S64x4096x24x24, .f32⟩ : BufTy).Contents (Elt F) → (⟨S4096x64x24x24, .f32⟩ : BufTy).Contents (Elt F)),
    binary main_v79 main_v84 main_v85 (addf : (⟨S4096x64x24x24, .f32⟩ : BufTy).Contents (Elt F) → (⟨S4096x64x24x24, .f32⟩ : BufTy).Contents (Elt F) → (⟨S4096x64x24x24, .f32⟩ : BufTy).Contents (Elt F)),
    unary main_v56 main_v86 ((extractStridedSlice S4096x32x24x24 ![0, 0, 1, 2] · slices_S4096x32x26x26_S4096x32x24x24_0_0_1_2) : (⟨S4096x32x26x26, .f32⟩ : BufTy).Contents (Elt F) → (⟨S4096x32x24x24, .f32⟩ : BufTy).Contents (Elt F)),
    unary main_arg3 main_v87 ((extractStridedSlice S64x32x1x1 ![0, 0, 1, 2] · slices_S64x32x3x3_S64x32x1x1_0_0_1_2) : (⟨S64x32x3x3, .f32⟩ : BufTy).Contents (Elt F) → (⟨S64x32x1x1, .f32⟩ : BufTy).Contents (Elt F)),
    reshape main_v87 main_v88 (rfl : (.f32 : EltTy) = .f32) shapeCasts_S64x32x1x1_S64x32,
    binary main_v88 main_v86 main_v89 ((fun l r => Host.dotGeneral dot_S64x32_S4096x32x24x24_S64x4096x24x24_1_1_0_023_n_n none l r) : (⟨S64x32, .f32⟩ : BufTy).Contents (Elt F) → (⟨S4096x32x24x24, .f32⟩ : BufTy).Contents (Elt F) → (⟨S64x4096x24x24, .f32⟩ : BufTy).Contents (Elt F)),
    unary main_v89 main_v90 ((transpose S4096x64x24x24 [1, 0, 2, 3] · transposes_S64x4096x24x24_S4096x64x24x24_1_0_2_3) : (⟨S64x4096x24x24, .f32⟩ : BufTy).Contents (Elt F) → (⟨S4096x64x24x24, .f32⟩ : BufTy).Contents (Elt F)),
    binary main_v85 main_v90 main_v91 (addf : (⟨S4096x64x24x24, .f32⟩ : BufTy).Contents (Elt F) → (⟨S4096x64x24x24, .f32⟩ : BufTy).Contents (Elt F) → (⟨S4096x64x24x24, .f32⟩ : BufTy).Contents (Elt F)),
    unary main_v56 main_v92 ((extractStridedSlice S4096x32x24x24 ![0, 0, 2, 0] · slices_S4096x32x26x26_S4096x32x24x24_0_0_2_0) : (⟨S4096x32x26x26, .f32⟩ : BufTy).Contents (Elt F) → (⟨S4096x32x24x24, .f32⟩ : BufTy).Contents (Elt F)),
    unary main_arg3 main_v93 ((extractStridedSlice S64x32x1x1 ![0, 0, 2, 0] · slices_S64x32x3x3_S64x32x1x1_0_0_2_0) : (⟨S64x32x3x3, .f32⟩ : BufTy).Contents (Elt F) → (⟨S64x32x1x1, .f32⟩ : BufTy).Contents (Elt F)),
    reshape main_v93 main_v94 (rfl : (.f32 : EltTy) = .f32) shapeCasts_S64x32x1x1_S64x32,
    binary main_v94 main_v92 main_v95 ((fun l r => Host.dotGeneral dot_S64x32_S4096x32x24x24_S64x4096x24x24_1_1_0_023_n_n none l r) : (⟨S64x32, .f32⟩ : BufTy).Contents (Elt F) → (⟨S4096x32x24x24, .f32⟩ : BufTy).Contents (Elt F) → (⟨S64x4096x24x24, .f32⟩ : BufTy).Contents (Elt F)),
    unary main_v95 main_v96 ((transpose S4096x64x24x24 [1, 0, 2, 3] · transposes_S64x4096x24x24_S4096x64x24x24_1_0_2_3) : (⟨S64x4096x24x24, .f32⟩ : BufTy).Contents (Elt F) → (⟨S4096x64x24x24, .f32⟩ : BufTy).Contents (Elt F)),
    binary main_v91 main_v96 main_v97 (addf : (⟨S4096x64x24x24, .f32⟩ : BufTy).Contents (Elt F) → (⟨S4096x64x24x24, .f32⟩ : BufTy).Contents (Elt F) → (⟨S4096x64x24x24, .f32⟩ : BufTy).Contents (Elt F)),
    unary main_v56 main_v98 ((extractStridedSlice S4096x32x24x24 ![0, 0, 2, 1] · slices_S4096x32x26x26_S4096x32x24x24_0_0_2_1) : (⟨S4096x32x26x26, .f32⟩ : BufTy).Contents (Elt F) → (⟨S4096x32x24x24, .f32⟩ : BufTy).Contents (Elt F)),
    unary main_arg3 main_v99 ((extractStridedSlice S64x32x1x1 ![0, 0, 2, 1] · slices_S64x32x3x3_S64x32x1x1_0_0_2_1) : (⟨S64x32x3x3, .f32⟩ : BufTy).Contents (Elt F) → (⟨S64x32x1x1, .f32⟩ : BufTy).Contents (Elt F)),
    reshape main_v99 main_v100 (rfl : (.f32 : EltTy) = .f32) shapeCasts_S64x32x1x1_S64x32,
    binary main_v100 main_v98 main_v101 ((fun l r => Host.dotGeneral dot_S64x32_S4096x32x24x24_S64x4096x24x24_1_1_0_023_n_n none l r) : (⟨S64x32, .f32⟩ : BufTy).Contents (Elt F) → (⟨S4096x32x24x24, .f32⟩ : BufTy).Contents (Elt F) → (⟨S64x4096x24x24, .f32⟩ : BufTy).Contents (Elt F)),
    unary main_v101 main_v102 ((transpose S4096x64x24x24 [1, 0, 2, 3] · transposes_S64x4096x24x24_S4096x64x24x24_1_0_2_3) : (⟨S64x4096x24x24, .f32⟩ : BufTy).Contents (Elt F) → (⟨S4096x64x24x24, .f32⟩ : BufTy).Contents (Elt F)),
    binary main_v97 main_v102 main_v103 (addf : (⟨S4096x64x24x24, .f32⟩ : BufTy).Contents (Elt F) → (⟨S4096x64x24x24, .f32⟩ : BufTy).Contents (Elt F) → (⟨S4096x64x24x24, .f32⟩ : BufTy).Contents (Elt F)),
    unary main_v56 main_v104 ((extractStridedSlice S4096x32x24x24 ![0, 0, 2, 2] · slices_S4096x32x26x26_S4096x32x24x24_0_0_2_2) : (⟨S4096x32x26x26, .f32⟩ : BufTy).Contents (Elt F) → (⟨S4096x32x24x24, .f32⟩ : BufTy).Contents (Elt F)),
    unary main_arg3 main_v105 ((extractStridedSlice S64x32x1x1 ![0, 0, 2, 2] · slices_S64x32x3x3_S64x32x1x1_0_0_2_2) : (⟨S64x32x3x3, .f32⟩ : BufTy).Contents (Elt F) → (⟨S64x32x1x1, .f32⟩ : BufTy).Contents (Elt F)),
    reshape main_v105 main_v106 (rfl : (.f32 : EltTy) = .f32) shapeCasts_S64x32x1x1_S64x32,
    binary main_v106 main_v104 main_v107 ((fun l r => Host.dotGeneral dot_S64x32_S4096x32x24x24_S64x4096x24x24_1_1_0_023_n_n none l r) : (⟨S64x32, .f32⟩ : BufTy).Contents (Elt F) → (⟨S4096x32x24x24, .f32⟩ : BufTy).Contents (Elt F) → (⟨S64x4096x24x24, .f32⟩ : BufTy).Contents (Elt F)),
    unary main_v107 main_v108 ((transpose S4096x64x24x24 [1, 0, 2, 3] · transposes_S64x4096x24x24_S4096x64x24x24_1_0_2_3) : (⟨S64x4096x24x24, .f32⟩ : BufTy).Contents (Elt F) → (⟨S4096x64x24x24, .f32⟩ : BufTy).Contents (Elt F)),
    binary main_v103 main_v108 main_v109 (addf : (⟨S4096x64x24x24, .f32⟩ : BufTy).Contents (Elt F) → (⟨S4096x64x24x24, .f32⟩ : BufTy).Contents (Elt F) → (⟨S4096x64x24x24, .f32⟩ : BufTy).Contents (Elt F)),
    unary main_arg4 main_v110 (broadcastInDim S1x64x1x1 ![1] bcast_S64_S1x64x1x1_1 : (⟨S64, .f32⟩ : BufTy).Contents (Elt F) → (⟨S1x64x1x1, .f32⟩ : BufTy).Contents (Elt F)),
    unary main_v110 main_v111 (broadcastInDim S4096x64x24x24 ![0, 1, 2, 3] bcast_S1x64x1x1_S4096x64x24x24_0_1_2_3 : (⟨S1x64x1x1, .f32⟩ : BufTy).Contents (Elt F) → (⟨S4096x64x24x24, .f32⟩ : BufTy).Contents (Elt F)),
    binary main_v109 main_v111 main_v112 (addf : (⟨S4096x64x24x24, .f32⟩ : BufTy).Contents (Elt F) → (⟨S4096x64x24x24, .f32⟩ : BufTy).Contents (Elt F) → (⟨S4096x64x24x24, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S4096x64x24x24, .f32⟩) main_call1_v0) (broadcastInDim S4096x64x24x24 ![] bcast_S_S4096x64x24x24),
    TRef.binary (TRef.of (T := ⟨S4096x64x24x24, .f32⟩) main_v112) (TRef.of (T := ⟨S4096x64x24x24, .f32⟩) main_call1_v0) (TRef.of (T := ⟨S4096x64x24x24, .f32⟩) main_v113) maximumf ]

/-- The pooling and the two dense layers: `main_v127`. -/
abbrev opsC : List (HloOp τ sig (Elt F)) :=
  [ reshape main_v113 main_v114 (rfl : (.f32 : EltTy) = .f32) shapeCasts_S4096x64x24x24_S4096x64x12x2x12x2,
    nullary main_cst (constant S_ .f32 0xFF800000#32),
    binary main_v114 main_cst main_v115 ((fun x v => Host.reduce FloatOps.maximumf x v reducesTo_S4096x64x12x2x12x2_S4096x64x12x12_d3_5 h_S_) : (⟨S4096x64x12x2x12x2, .f32⟩ : BufTy).Contents (Elt F) → (⟨S_, .f32⟩ : BufTy).Contents (Elt F) → (⟨S4096x64x12x12, .f32⟩ : BufTy).Contents (Elt F)),
    reshape main_v115 main_v116 (rfl : (.f32 : EltTy) = .f32) shapeCasts_S4096x64x12x12_S4096x9216,
    unary main_arg5 main_v117 ((transpose S9216x128 [1, 0] · transposes_S128x9216_S9216x128_1_0) : (⟨S128x9216, .f32⟩ : BufTy).Contents (Elt F) → (⟨S9216x128, .f32⟩ : BufTy).Contents (Elt F)),
    binary main_v116 main_v117 main_v118 ((fun l r => Host.dotGeneral dot_S4096x9216_S9216x128_S4096x128_1_0_0_1_n_n none l r) : (⟨S4096x9216, .f32⟩ : BufTy).Contents (Elt F) → (⟨S9216x128, .f32⟩ : BufTy).Contents (Elt F) → (⟨S4096x128, .f32⟩ : BufTy).Contents (Elt F)),
    unary main_arg6 main_v119 (broadcastInDim S1x128 ![1] bcast_S128_S1x128_1 : (⟨S128, .f32⟩ : BufTy).Contents (Elt F) → (⟨S1x128, .f32⟩ : BufTy).Contents (Elt F)),
    unary main_v119 main_v120 (broadcastInDim S4096x128 ![0, 1] bcast_S1x128_S4096x128_0_1 : (⟨S1x128, .f32⟩ : BufTy).Contents (Elt F) → (⟨S4096x128, .f32⟩ : BufTy).Contents (Elt F)),
    binary main_v118 main_v120 main_v121 (addf : (⟨S4096x128, .f32⟩ : BufTy).Contents (Elt F) → (⟨S4096x128, .f32⟩ : BufTy).Contents (Elt F) → (⟨S4096x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S4096x128, .f32⟩) main_call2_v0) (broadcastInDim S4096x128 ![] bcast_S_S4096x128),
    TRef.binary (TRef.of (T := ⟨S4096x128, .f32⟩) main_v121) (TRef.of (T := ⟨S4096x128, .f32⟩) main_call2_v0) (TRef.of (T := ⟨S4096x128, .f32⟩) main_v122) maximumf,
    unary main_arg7 main_v123 ((transpose S128x10 [1, 0] · transposes_S10x128_S128x10_1_0) : (⟨S10x128, .f32⟩ : BufTy).Contents (Elt F) → (⟨S128x10, .f32⟩ : BufTy).Contents (Elt F)),
    binary main_v122 main_v123 main_v124 ((fun l r => Host.dotGeneral dot_S4096x128_S128x10_S4096x10_1_0_0_1_n_n none l r) : (⟨S4096x128, .f32⟩ : BufTy).Contents (Elt F) → (⟨S128x10, .f32⟩ : BufTy).Contents (Elt F) → (⟨S4096x10, .f32⟩ : BufTy).Contents (Elt F)),
    unary main_arg8 main_v125 (broadcastInDim S1x10 ![1] bcast_S10_S1x10_1 : (⟨S10, .f32⟩ : BufTy).Contents (Elt F) → (⟨S1x10, .f32⟩ : BufTy).Contents (Elt F)),
    unary main_v125 main_v126 (broadcastInDim S4096x10 ![0, 1] bcast_S1x10_S4096x10_0_1 : (⟨S1x10, .f32⟩ : BufTy).Contents (Elt F) → (⟨S4096x10, .f32⟩ : BufTy).Contents (Elt F)),
    binary main_v124 main_v126 main_v127 (addf : (⟨S4096x10, .f32⟩ : BufTy).Contents (Elt F) → (⟨S4096x10, .f32⟩ : BufTy).Contents (Elt F) → (⟨S4096x10, .f32⟩ : BufTy).Contents (Elt F))  ]

/-- The whole list. -/
abbrev ops : List (HloOp τ sig (Elt F)) := opsA ++ (opsB ++ opsC)

set_option maxRecDepth 8192 in
set_option maxHeartbeats 4000000 in
/-- @main runs the whole list. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem opsA_sub : (opsA : List (HloOp τ sig (Elt F))).Forall fun op => op.bufs ⊆ tcRefs τ sig :=
  ⟨unary_bufs_sub .., unary_bufs_sub .., reshape_bufs_sub .., binary_bufs_sub .., unary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., binary_bufs_sub .., nullary_bufs_sub .., unary_bufs_sub .., binary_bufs_sub ..⟩

theorem opsB_sub : (opsB : List (HloOp τ sig (Elt F))).Forall fun op => op.bufs ⊆ tcRefs τ sig :=
  ⟨unary_bufs_sub .., unary_bufs_sub .., reshape_bufs_sub .., binary_bufs_sub .., unary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., binary_bufs_sub .., nullary_bufs_sub .., unary_bufs_sub .., binary_bufs_sub ..⟩

theorem opsC_sub : (opsC : List (HloOp τ sig (Elt F))).Forall fun op => op.bufs ⊆ tcRefs τ sig :=
  ⟨reshape_bufs_sub .., nullary_bufs_sub .., binary_bufs_sub .., reshape_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub ..⟩

theorem ops_sub : (ops : List (HloOp τ sig (Elt F))).Forall fun op => op.bufs ⊆ tcRefs τ sig :=
  List.forall_append.mpr ⟨opsA_sub, List.forall_append.mpr ⟨opsB_sub, opsC_sub⟩⟩

/-- Running two lists is running the one, then the other. -/
theorem after_two {Val : EltTy → Type} (l l' : List (HloOp τ sig Val)) (V : Valuation τ sig Val) :
    after (l ++ l') V = after l' (after l V) := by
  induction l generalizing V with
  | nil => rfl
  | cons op l ih => exact ih _

end Cert.ReferenceIdeal.Layers

end
-- ==== Proof.RefConv1.lean ====
module

public import proofs.«01_k».proof.Proof.RefOps
public import proofs.«01_k».proof.Proof.Spec
public import Idealize.ShloMosaic.Lib.StableHlo.ReadAt
public import Idealize.ShloMosaic.Lib.Pointwise

@[expose] public section

set_option maxRecDepth 16384

/-!
  The reference's first layer at an element: the first convolution of the image.
-/

noncomputable section

namespace Cert.ReferenceIdeal.Layers

open Cert.ReferenceIdeal Cert.ReferenceIdeal.Gen Idealize.ShloMosaic Idealize.ShloMosaic.TcCoe Idealize.SL.Sem Idealize.ShloMosaic.StableHlo

/-- After the first list, the first hidden array at image `n`, channel `o`, place `(i, j)`. -/
theorem conv1_at (V : Valuation τ sig (Elt Ideal)) (x : FVec Ideal S4096x1x28x28 .f32) (w : FVec Ideal S32x1x3x3 .f32)
    (b : FVec Ideal S32 .f32) (hx : V main_arg0 = x) (hw : V main_arg1 = w) (hb : V main_arg2 = b)
    (n : Fin 4096) (o : Fin 32) (i j : Fin 26) :
    after opsA V main_v56 (ix4 n o i j)
      = Cert.Net.conv1 (fun p q => x (ix4 n 0 p q)) (fun o d e => w (ix4 o 0 d e)) (fun o => b (ix1 o)) o i j := by
  after_reads_at
  simp only [hx, hw, hb, Cert.Net.conv1, Fin.sum_univ_three, Fin.val_zero, Fin.val_one, Fin.val_two, Nat.add_zero,
    Nat.add_comm 1, Nat.add_comm 2, add_assoc, Finset.univ_unique, Finset.sum_singleton]

end Cert.ReferenceIdeal.Layers

end
-- ==== Proof.RefConv2.lean ====
module

public import proofs.«01_k».proof.Proof.RefOps
public import proofs.«01_k».proof.Proof.Spec
public import Idealize.ShloMosaic.Lib.StableHlo.ReadAt
public import Idealize.ShloMosaic.Lib.Pointwise

@[expose] public section

set_option maxRecDepth 16384

/-!
  The reference's second layer at an element: the second convolution of the first hidden array.
-/

noncomputable section

namespace Cert.ReferenceIdeal.Layers

open Cert.ReferenceIdeal Cert.ReferenceIdeal.Gen Idealize.ShloMosaic Idealize.ShloMosaic.TcCoe Idealize.SL.Sem Idealize.ShloMosaic.StableHlo

/-- After the second list, the second hidden array at image `n`, channel `o`, place `(i, j)`. -/
theorem conv2_at (V : Valuation τ sig (Elt Ideal)) (x : FVec Ideal S4096x32x26x26 .f32) (w : FVec Ideal S64x32x3x3 .f32)
    (b : FVec Ideal S64 .f32) (hx : V main_v56 = x) (hw : V main_arg3 = w) (hb : V main_arg4 = b)
    (n : Fin 4096) (o : Fin 64) (i j : Fin 24) :
    after opsB V main_v113 (ix4 n o i j)
      = Cert.Net.conv2 (fun c p q => x (ix4 n c p q)) (fun o c d e => w (ix4 o c d e)) (fun o => b (ix1 o)) o i j := by
  after_reads_at
  simp only [hx, hw, hb, Cert.Net.conv2, Fin.sum_univ_three, Fin.val_zero, Fin.val_one, Fin.val_two, Nat.add_zero,
    Nat.add_comm 1, Nat.add_comm 2, add_assoc]

end Cert.ReferenceIdeal.Layers

end
-- ==== Proof.RefDense.lean ====
module

public import proofs.«01_k».proof.Proof.RefOps
public import proofs.«01_k».proof.Proof.SumLaws
public import proofs.«01_k».proof.Proof.Spec
public import Idealize.ShloMosaic.Lib.StableHlo.ReadAt
public import Idealize.ShloMosaic.Lib.Pointwise

@[expose] public section

set_option maxRecDepth 16384

/-!
  The reference's last list at an element: the pooling, the flattening and the two dense layers.
-/

noncomputable section

namespace Cert.ReferenceIdeal.Layers

open Cert.ReferenceIdeal Cert.ReferenceIdeal.Gen Idealize.ShloMosaic Idealize.ShloMosaic.TcCoe Idealize.SL.Sem Idealize.ShloMosaic.StableHlo

/-- The bottom of the maximum's fold is −∞. -/
theorem negInf : Ideal.ofBits FTy.f32 0xFF800000#32 = ⊥ := by
  simp [Ideal.ofBits, Ideal.ieee]

/-- The fold of `max` over a 2×2 window is the largest of its four entries. -/
theorem window_max (g : S4096x64x12x2x12x2.Idx → EReal) (n : Fin 4096) (o : Fin 64) (i j : Fin 12) :
    (Finset.univ.filter fun q => reducesTo_S4096x64x12x2x12x2_S4096x64x12x12_d3_5.drop q = ix4 n o i j).fold max
        (Ideal.ofBits FTy.f32 0xFF800000#32) g
      = max (max (g (ix6 n o i 0 j 0)) (g (ix6 n o i 1 j 0))) (max (g (ix6 n o i 0 j 1)) (g (ix6 n o i 1 j 1))) := by
  have hin : ∀ a b : Fin 2, ix6 n o i a j b ∈ Finset.univ.filter fun q =>
      reducesTo_S4096x64x12x2x12x2_S4096x64x12x12_d3_5.drop q = ix4 n o i j := by
    intro a b
    refine Finset.mem_filter.mpr ⟨Finset.mem_univ _, ?_⟩
    funext k
    match k with
    | ⟨0, _⟩ => rfl
    | ⟨1, _⟩ => rfl
    | ⟨2, _⟩ => rfl
    | ⟨3, _⟩ => rfl
  have hle : ∀ a b : Fin 2, g (ix6 n o i a j b)
      ≤ max (max (g (ix6 n o i 0 j 0)) (g (ix6 n o i 1 j 0))) (max (g (ix6 n o i 0 j 1)) (g (ix6 n o i 1 j 1))) := by
    intro a b
    match a, b with
    | 0, 0 => exact le_max_of_le_left (le_max_left _ _)
    | 1, 0 => exact le_max_of_le_left (le_max_right _ _)
    | 0, 1 => exact le_max_of_le_right (le_max_left _ _)
    | 1, 1 => exact le_max_of_le_right (le_max_right _ _)
  rw [negInf]
  apply le_antisymm
  · refine (Finset.fold_max_le _).mpr ⟨bot_le, fun q hq => ?_⟩
    have e := (Finset.mem_filter.mp hq).2
    have hq' : q = ix6 n o i (q 3) j (q 5) := by
      funext k
      match k with
      | ⟨0, _⟩ => exact congrFun e 0
      | ⟨1, _⟩ => exact congrFun e 1
      | ⟨2, _⟩ => exact congrFun e 2
      | ⟨3, _⟩ => rfl
      | ⟨4, _⟩ => exact congrFun e 3
      | ⟨5, _⟩ => rfl
    rw [hq']
    exact hle _ _
  · exact max_le (max_le ((Finset.le_fold_max _).mpr (Or.inr ⟨_, hin 0 0, le_rfl⟩))
        ((Finset.le_fold_max _).mpr (Or.inr ⟨_, hin 1 0, le_rfl⟩)))
      (max_le ((Finset.le_fold_max _).mpr (Or.inr ⟨_, hin 0 1, le_rfl⟩))
        ((Finset.le_fold_max _).mpr (Or.inr ⟨_, hin 1 1, le_rfl⟩)))

/-- A sum over the 9216 flat places, by channel, row and column. -/
theorem sum_flat (p : Fin 64 → Fin 12 → Fin 12 → EReal) (w : Fin 9216 → EReal) :
    ∑ r : Fin 9216, p ⟨r.1 / 144, by omega⟩ ⟨r.1 / 12 % 12, by omega⟩ ⟨r.1 % 12, by omega⟩ * w r
      = ∑ o : Fin 64, ∑ i : Fin 12, ∑ j : Fin 12, p o i j * w ⟨o.1 * 144 + i.1 * 12 + j.1, by omega⟩ := by
  rw [Cert.Net.sum_rows 64 144 9216 (by norm_num)]
  refine Finset.sum_congr rfl fun o _ => ?_
  rw [Cert.Net.sum_rows 12 12 144 (by norm_num)]
  refine Finset.sum_congr rfl fun i _ => Finset.sum_congr rfl fun j _ => ?_
  have h1 : (o.1 * 144 + (i.1 * 12 + j.1)) / 144 = o.1 := by omega
  have h2 : (o.1 * 144 + (i.1 * 12 + j.1)) / 12 % 12 = i.1 := by omega
  have h3 : (o.1 * 144 + (i.1 * 12 + j.1)) % 12 = j.1 := by omega
  simp only [h1, h2, h3, Fin.eta, Nat.add_assoc]

/-- After the last list, the scores of image `n`. -/
theorem dense_at (V : Valuation τ sig (Elt Ideal)) (x : FVec Ideal S4096x64x24x24 .f32) (w3 : FVec Ideal S128x9216 .f32)
    (b3 : FVec Ideal S128 .f32) (w4 : FVec Ideal S10x128 .f32) (b4 : FVec Ideal S10 .f32)
    (hx : V main_v113 = x) (hw3 : V main_arg5 = w3) (hb3 : V main_arg6 = b3) (hw4 : V main_arg7 = w4) (hb4 : V main_arg8 = b4)
    (n : Fin 4096) (l : Fin 10) :
    after opsC V main_v127 (ix2 n l)
      = Cert.Net.dense2 (Cert.Net.dense1 (Cert.Net.pool fun o i j => x (ix4 n o i j))
          (fun k r => w3 (ix2 k r)) (fun k => b3 (ix1 k))) (fun l k => w4 (ix2 l k)) (fun l => b4 (ix1 l)) l := by
  after_reads_at
  simp only [hx, hw3, hb3, hw4, hb4, window_max, Cert.Net.dense2, Cert.Net.dense1]
  refine congrArg (· + b4 (ix1 l)) (Finset.sum_congr rfl fun k _ => congrArg (fun t => max (t + b3 (ix1 k)) 0 * w4 (ix2 l k)) ?_)
  refine (Finset.sum_congr rfl fun r _ => ?_).trans (sum_flat (Cert.Net.pool fun o i j => x (ix4 n o i j)) (fun r => w3 (ix2 k r)))
  refine congrArg (· * w3 (ix2 k r)) ?_
  simp only [Cert.Net.pool]
  simp [Nat.mul_comm]

end Cert.ReferenceIdeal.Layers

end
-- ==== Proof.RefValue.lean ====
module

public import proofs.«01_k».proof.Proof.RefConv1
public import proofs.«01_k».proof.Proof.RefConv2
public import proofs.«01_k».proof.Proof.RefDense

@[expose] public section

set_option maxRecDepth 16384

/-!
  What the reference computes: every execution ends with row `n` of the result at the network's scores of image `n`.
-/

noncomputable section

namespace Cert.ReferenceIdeal.Layers

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

/-- The images. -/
abbrev images : FVec Ideal S4096x1x28x28 .f32 := m (c.tc.loc main_arg0)
/-- The first convolution's weights. -/
abbrev weights1 : FVec Ideal S32x1x3x3 .f32 := m (c.tc.loc main_arg1)
/-- The first convolution's bias. -/
abbrev bias1 : FVec Ideal S32 .f32 := m (c.tc.loc main_arg2)
/-- The second convolution's weights. -/
abbrev weights2 : FVec Ideal S64x32x3x3 .f32 := m (c.tc.loc main_arg3)
/-- The second convolution's bias. -/
abbrev bias2 : FVec Ideal S64 .f32 := m (c.tc.loc main_arg4)
/-- The first dense layer's weights. -/
abbrev weights3 : FVec Ideal S128x9216 .f32 := m (c.tc.loc main_arg5)
/-- The first dense layer's bias. -/
abbrev bias3 : FVec Ideal S128 .f32 := m (c.tc.loc main_arg6)
/-- The second dense layer's weights. -/
abbrev weights4 : FVec Ideal S10x128 .f32 := m (c.tc.loc main_arg7)
/-- The second dense layer's bias. -/
abbrev bias4 : FVec Ideal S10 .f32 := m (c.tc.loc main_arg8)

/-- The network's parameters, as the arguments hold them. -/
def params : Cert.Net.Params where
  w1 o d e := weights1 m c (ix4 o 0 d e)
  b1 o := bias1 m c (ix1 o)
  w2 o i d e := weights2 m c (ix4 o i d e)
  b2 o := bias2 m c (ix1 o)
  w3 k r := weights3 m c (ix2 k r)
  b3 k := bias3 m c (ix1 k)
  w4 l k := weights4 m c (ix2 l k)
  b4 l := bias4 m c (ix1 l)

/-- The contents after the first list. -/
def midA : Valuation τ sig (Elt Ideal) := after opsA (launchContents m c)
/-- The contents after the second list. -/
def midB : Valuation τ sig (Elt Ideal) := after opsB (midA m c)

theorem midA_arg3 : midA m c main_arg3 = weights2 m c := by unfold midA; after_reads_simp
theorem midA_arg4 : midA m c main_arg4 = bias2 m c := by unfold midA; after_reads_simp
theorem midA_arg5 : midA m c main_arg5 = weights3 m c := by unfold midA; after_reads_simp
theorem midA_arg6 : midA m c main_arg6 = bias3 m c := by unfold midA; after_reads_simp
theorem midA_arg7 : midA m c main_arg7 = weights4 m c := by unfold midA; after_reads_simp
theorem midA_arg8 : midA m c main_arg8 = bias4 m c := by unfold midA; after_reads_simp
theorem midB_arg5 : midB m c main_arg5 = weights3 m c := by unfold midB; after_reads_simp; exact midA_arg5 m c
theorem midB_arg6 : midB m c main_arg6 = bias3 m c := by unfold midB; after_reads_simp; exact midA_arg6 m c
theorem midB_arg7 : midB m c main_arg7 = weights4 m c := by unfold midB; after_reads_simp; exact midA_arg7 m c
theorem midB_arg8 : midB m c main_arg8 = bias4 m c := by unfold midB; after_reads_simp; exact midA_arg8 m c

/-- The first hidden array. -/
def hidden1 : FVec Ideal S4096x32x26x26 .f32 := midA m c main_v56
/-- The second hidden array. -/
def hidden2 : FVec Ideal S4096x64x24x24 .f32 := midB m c main_v113

theorem hidden1_at (n : Fin 4096) (o : Fin 32) (i j : Fin 26) :
    hidden1 m c (ix4 n o i j) = Cert.Net.conv1 (fun p q => images m c (ix4 n 0 p q)) (params m c).w1 (params m c).b1 o i j :=
  conv1_at (launchContents m c) (images m c) (weights1 m c) (bias1 m c) rfl rfl rfl n o i j

theorem hidden2_at (n : Fin 4096) (o : Fin 64) (i j : Fin 24) :
    hidden2 m c (ix4 n o i j) = Cert.Net.feat (params m c) (fun p q => images m c (ix4 n 0 p q)) o i j := by
  refine (conv2_at (midA m c) (hidden1 m c) (weights2 m c) (bias2 m c) rfl (midA_arg3 m c) (midA_arg4 m c) n o i j).trans ?_
  simp only [hidden1_at]
  rfl

/-- The result of the three lists, at image `n`, class `l`. -/
theorem result_at (n : Fin 4096) (l : Fin 10) :
    after ops (launchContents m c) main_v127 (ix2 n l) = Cert.Net.net (params m c) (fun p q => images m c (ix4 n 0 p q)) l := by
  have h : after ops (launchContents m c) = after opsC (midB m c) := by
    rw [ops, after_two, after_two]; rfl
  rw [h]
  refine (dense_at (midB m c) (hidden2 m c) (weights3 m c) (bias3 m c) (weights4 m c) (bias4 m c) rfl (midB_arg5 m c)
    (midB_arg6 m c) (midB_arg7 m c) (midB_arg8 m c) n l).trans ?_
  simp only [hidden2_at]
  rfl

end Cert.ReferenceIdeal.Layers

end
-- ==== Proof.RefRun.lean ====
module

public import proofs.«01_k».proof.Proof.RefValue

@[expose] public section

set_option maxRecDepth 16384

/-!
  The reference's run: every execution ends with the result array at the scores of all images, the arguments as they
  were, and no semaphore raised.
-/

noncomputable section

namespace Cert.ReferenceIdeal.Layers

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

theorem freshA : ∀ op ∈ (opsA : List (HloOp τ sig (Elt Ideal))), op.fresh = ∅ := by
  intro _ h; (repeat (cases h with | head => rfl | tail _ h => ?_)); exact nomatch h
theorem freshB : ∀ op ∈ (opsB : List (HloOp τ sig (Elt Ideal))), op.fresh = ∅ := by
  intro _ h; (repeat (cases h with | head => rfl | tail _ h => ?_)); exact nomatch h
theorem freshC : ∀ op ∈ (opsC : List (HloOp τ sig (Elt Ideal))), op.fresh = ∅ := by
  intro _ h; (repeat (cases h with | head => rfl | tail _ h => ?_)); exact nomatch h

theorem fresh : ∀ op ∈ (ops : List (HloOp τ sig (Elt Ideal))), op.fresh = ∅ := by
  intro op h
  rcases List.mem_append.mp h with h | h
  · exact freshA op h
  rcases List.mem_append.mp h with h | h
  · exact freshB op h
  · exact freshC op h

variable (c : Dev nD)

theorem after_all : after ops (launchContents m c) = after opsC (midB m c) := by
  rw [ops, after_two, after_two]; rfl

theorem kept0 : after ops (launchContents m c) main_arg0 = m (c.tc.loc main_arg0) := by
  rw [after_all]; after_reads_simp; unfold midB; after_reads_simp; unfold midA; after_reads_simp
theorem kept1 : after ops (launchContents m c) main_arg1 = m (c.tc.loc main_arg1) := by
  rw [after_all]; after_reads_simp; unfold midB; after_reads_simp; unfold midA; after_reads_simp
theorem kept2 : after ops (launchContents m c) main_arg2 = m (c.tc.loc main_arg2) := by
  rw [after_all]; after_reads_simp; unfold midB; after_reads_simp; unfold midA; after_reads_simp
theorem kept3 : after ops (launchContents m c) main_arg3 = m (c.tc.loc main_arg3) := by
  rw [after_all]; after_reads_simp; unfold midB; after_reads_simp; exact midA_arg3 m c
theorem kept4 : after ops (launchContents m c) main_arg4 = m (c.tc.loc main_arg4) := by
  rw [after_all]; after_reads_simp; unfold midB; after_reads_simp; exact midA_arg4 m c
theorem kept5 : after ops (launchContents m c) main_arg5 = m (c.tc.loc main_arg5) := by
  rw [after_all]; after_reads_simp; exact midB_arg5 m c
theorem kept6 : after ops (launchContents m c) main_arg6 = m (c.tc.loc main_arg6) := by
  rw [after_all]; after_reads_simp; exact midB_arg6 m c
theorem kept7 : after ops (launchContents m c) main_arg7 = m (c.tc.loc main_arg7) := by
  rw [after_all]; after_reads_simp; exact midB_arg7 m c
theorem kept8 : after ops (launchContents m c) main_arg8 = m (c.tc.loc main_arg8) := by
  rw [after_all]; after_reads_simp; exact midB_arg8 m c

/-- The result array: the scores of every image. -/
def scores : FVec Ideal S4096x10 .f32 :=
  fun i => Cert.Net.net (params m c) (fun p q => images m c (ix4 (i 0) 0 p q)) (i 1)

theorem result_eq : after ops (launchContents m c) main_v127 = scores m c := by
  funext i
  obtain ⟨n, l, rfl⟩ : ∃ (n : Fin 4096) (l : Fin 10), i = (ix2 n l : S4096x10.Idx) :=
    ⟨i 0, i 1, funext fun a => by match a with | ⟨0, _⟩ => rfl | ⟨1, _⟩ => rfl⟩
  exact result_at m c n l

/-- The run, read at the result and the arguments. -/
theorem run : θ_run defs (onTc (τ := τ) (main (F := Ideal))) ⟨m, fun _ => 0, ρ⟩ fun r => ∀ c : Dev nD,
    r.2.mem ((c.tc : Thread nD τ).loc main_v127) = scores m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) :=
  (θ_run defs _ _).mono (fun _ h c => ⟨(h c main_v127).trans (result_eq m c), (h c main_arg0).trans (kept0 m c),
      (h c main_arg1).trans (kept1 m c), (h c main_arg2).trans (kept2 m c), (h c main_arg3).trans (kept3 m c),
      (h c main_arg4).trans (kept4 m c), (h c main_arg5).trans (kept5 m c), (h c main_arg6).trans (kept6 m c),
      (h c main_arg7).trans (kept7 m c), (h c main_arg8).trans (kept8 m c)⟩)
    (run_seq scopedRefs_eq scopedSems_eq defs main (fun _ => ops) main_eq (fun _ => ops_sub) m ρ (fun _ => fresh))

end Cert.ReferenceIdeal.Layers

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.ArrayValue
public import proofs.«01_k».proof.Proof.RefRun
public import Idealize.ShloMosaic.Adequacy
public import Idealize.ShloMosaic.Init

@[expose] public section

noncomputable section

namespace Cert.Proof

open Idealize.ShloMosaic Idealize.SL.Sem

/-- The reference's frame: its run leaves the arguments, and it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Layers.run m ρ)

/-- The kernel's result is the reference's, from arguments that agree. -/
theorem algebraic : Cert.algebraic_KernelIdeal_ReferenceIdeal := by
  intro m ρ m' ρ' _ hagree
  refine ⟨fun c => Cert.KernelIdeal.Host.scores m c,
    (θ_run Cert.KernelIdeal.defs _ _).mono (fun _ h c => ⟨(h c).1.trans (Cert.KernelIdeal.Host.array_eq m c), (h c).2⟩)
      (Cert.KernelIdeal.Value.run_blocks (F := Ideal) m ρ), ?_⟩
  refine (θ_run Cert.ReferenceIdeal.defs _ _).mono (fun r h c => ⟨(h c).1.trans ?_, (h c).2⟩)
    (Cert.ReferenceIdeal.Layers.run m' ρ')
  obtain ⟨h0, h1, h2, h3, h4, h5, h6, h7, h8⟩ := hagree c
  unfold Cert.ReferenceIdeal.Layers.scores Cert.KernelIdeal.Host.scores Cert.ReferenceIdeal.Layers.params
    Cert.KernelIdeal.Host.params Cert.KernelIdeal.Host.image
    Cert.ReferenceIdeal.Layers.images Cert.ReferenceIdeal.Layers.weights1 Cert.ReferenceIdeal.Layers.bias1
    Cert.ReferenceIdeal.Layers.weights2 Cert.ReferenceIdeal.Layers.bias2 Cert.ReferenceIdeal.Layers.weights3
    Cert.ReferenceIdeal.Layers.bias3 Cert.ReferenceIdeal.Layers.weights4 Cert.ReferenceIdeal.Layers.bias4
  rw [h0, h1, h2, h3, h4, h5, h6, h7, h8]

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
